-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_on_clip_idle [hKernelIdeal : Cert.KernelIdeal.Facts] [hReferenceIdeal : Cert.ReferenceIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 64]⟩ : Shape).Idx, (Layout.block ⟨2, ![2048, 64]⟩ ⟨2, ![2048, 2048]⟩ 1 32 c ((Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![2048, 64]⟩ : Shape).Idx → _) i = 1#1 → r.2.mem ((c.tc : Thread Cert.KernelIdeal.nD Cert.KernelIdeal.τ).loc Cert.KernelIdeal.main_v1) i = (Layout.block ⟨2, ![2048, 64]⟩ ⟨2, ![2048, 2048]⟩ 1 32 c v0 : (⟨2, ![2048, 64]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_on_clip_idle (hKernelIdeal := hKernelIdeal) (hReferenceIdeal := hReferenceIdeal) (hOn_clip_idle := hOn_clip_idle)
-- ==== On_clip_idle.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_cst : FVec F S_ .f32 := constant S_ .f32 0xC2700000#32
  let main_v1 : FVec F S2048x2048 .f32 := broadcastInDim S2048x2048 ![] bcast_S_S2048x2048 main_cst
  let main_v2 : IVec S2048x2048 1 := cmpf .oge main_v0 main_v1
  let main_cst_0 : FVec F S_ .f32 := constant S_ .f32 0x42700000#32
  let main_v3 : FVec F S2048x2048 .f32 := broadcastInDim S2048x2048 ![] bcast_S_S2048x2048 main_cst_0
  let main_v4 : IVec S2048x2048 1 := cmpf .ole main_v0 main_v3
  let main_v5 : IVec S2048x2048 1 := andi main_v2 main_v4
  main_v5
-- ==== Kernel.lean ====
abbrev S64x2048 : Shape := ⟨2, ![64, 2048]⟩
abbrev S2048x2048 : Shape := ⟨2, ![2048, 2048]⟩
abbrev S2048x64 : Shape := ⟨2, ![2048, 64]⟩
abbrev S32x64x64 : Shape := ⟨3, ![32, 64, 64]⟩
abbrev S32 : Shape := ⟨1, ![32]⟩
abbrev S_ : Shape := ⟨0, ![]⟩
abbrev S64x32x64 : Shape := ⟨3, ![64, 32, 64]⟩
abbrev S1 : Shape := ⟨1, ![1]⟩
abbrev S64x64 : Shape := ⟨2, ![64, 64]⟩
abbrev S1x64x64 : Shape := ⟨3, ![1, 64, 64]⟩

abbrev nBuf : Space → Nat
  | .hbm => 3
  | .vmem => 4
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S2048x64, .f32⟩
  | .local _ .vmem, ⟨0, _⟩ => ⟨S64x2048, .f32⟩
  | .local _ .vmem, ⟨1, _⟩ => ⟨S2048x2048, .f32⟩
  | .local _ .vmem, ⟨2, _⟩ => ⟨S2048x64, .f32⟩
  | .local _ .vmem, ⟨3, _⟩ => ⟨S32x64x64, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v82 : BitVec 32 := Scalar.muli v2 c64_i32
  let c0_i32_110 : BitVec 32 := 0#32
  ![v82.toNat, 0]
def k0_off2 (d0 : Dev nD) (c1_i32_104 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v80 : BitVec 32 := Scalar.addi v2 c1_i32_104
  let c32_i32_105 : BitVec 32 := 32#32
  let v81 : BitVec 32 := Scalar.remsi v80 c32_i32_105
  let c0_i32_111 : BitVec 32 := 0#32
  let c0_i32_112 : BitVec 32 := 0#32
  ![v81.toNat, 0, 0]
def k0_dev33 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_104 : BitVec 32 := 1#32
  let v80 : BitVec 32 := Scalar.addi v2 c1_i32_104
  let c32_i32_105 : BitVec 32 := 32#32
  let v81 : BitVec 32 := Scalar.remsi v80 c32_i32_105
  let c1_i32_108 : BitVec 32 := 1#32
  let v83 : BitVec 32 := Scalar.muli v81 c1_i32_108
  let v84 : BitVec 32 := Scalar.addi c0_i32_109 v83
  v84.toNat
def k0_dev34 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_113 : BitVec 32 := 2#32
  let v92 : BitVec 32 := Scalar.addi v2 c2_i32_113
  let c32_i32_114 : BitVec 32 := 32#32
  let v93 : BitVec 32 := Scalar.remsi v92 c32_i32_114
  let c1_i32_118 : BitVec 32 := 1#32
  let v95 : BitVec 32 := Scalar.muli v93 c1_i32_118
  let v96 : BitVec 32 := Scalar.addi c0_i32_119 v95
  v96.toNat
def k0_dev35 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_123 : BitVec 32 := 3#32
  let v104 : BitVec 32 := Scalar.addi v2 c3_i32_123
  let c32_i32_124 : BitVec 32 := 32#32
  let v105 : BitVec 32 := Scalar.remsi v104 c32_i32_124
  let c1_i32_128 : BitVec 32 := 1#32
  let v107 : BitVec 32 := Scalar.muli v105 c1_i32_128
  let v108 : BitVec 32 := Scalar.addi c0_i32_129 v107
  v108.toNat
def k0_dev36 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_133 : BitVec 32 := 4#32
  let v116 : BitVec 32 := Scalar.addi v2 c4_i32_133
  let c32_i32_134 : BitVec 32 := 32#32
  let v117 : BitVec 32 := Scalar.remsi v116 c32_i32_134
  let c1_i32_138 : BitVec 32 := 1#32
  let v119 : BitVec 32 := Scalar.muli v117 c1_i32_138
  let v120 : BitVec 32 := Scalar.addi c0_i32_139 v119
  v120.toNat
def k0_dev37 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_143 : BitVec 32 := 5#32
  let v128 : BitVec 32 := Scalar.addi v2 c5_i32_143
  let c32_i32_144 : BitVec 32 := 32#32
  let v129 : BitVec 32 := Scalar.remsi v128 c32_i32_144
  let c1_i32_148 : BitVec 32 := 1#32
  let v131 : BitVec 32 := Scalar.muli v129 c1_i32_148
  let v132 : BitVec 32 := Scalar.addi c0_i32_149 v131
  v132.toNat
def k0_dev38 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_153 : BitVec 32 := 6#32
  let v140 : BitVec 32 := Scalar.addi v2 c6_i32_153
  let c32_i32_154 : BitVec 32 := 32#32
  let v141 : BitVec 32 := Scalar.remsi v140 c32_i32_154
  let c1_i32_158 : BitVec 32 := 1#32
  let v143 : BitVec 32 := Scalar.muli v141 c1_i32_158
  let v144 : BitVec 32 := Scalar.addi c0_i32_159 v143
  v144.toNat
def k0_dev39 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_163 : BitVec 32 := 7#32
  let v152 : BitVec 32 := Scalar.addi v2 c7_i32_163
  let c32_i32_164 : BitVec 32 := 32#32
  let v153 : BitVec 32 := Scalar.remsi v152 c32_i32_164
  let c1_i32_168 : BitVec 32 := 1#32
  let v155 : BitVec 32 := Scalar.muli v153 c1_i32_168
  let v156 : BitVec 32 := Scalar.addi c0_i32_169 v155
  v156.toNat
def k0_dev40 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_173 : BitVec 32 := 8#32
  let v164 : BitVec 32 := Scalar.addi v2 c8_i32_173
  let c32_i32_174 : BitVec 32 := 32#32
  let v165 : BitVec 32 := Scalar.remsi v164 c32_i32_174
  let c1_i32_178 : BitVec 32 := 1#32
  let v167 : BitVec 32 := Scalar.muli v165 c1_i32_178
  let v168 : BitVec 32 := Scalar.addi c0_i32_179 v167
  v168.toNat
def k0_dev41 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_183 : BitVec 32 := 9#32
  let v176 : BitVec 32 := Scalar.addi v2 c9_i32_183
  let c32_i32_184 : BitVec 32 := 32#32
  let v177 : BitVec 32 := Scalar.remsi v176 c32_i32_184
  let c1_i32_188 : BitVec 32 := 1#32
  let v179 : BitVec 32 := Scalar.muli v177 c1_i32_188
  let v180 : BitVec 32 := Scalar.addi c0_i32_189 v179
  v180.toNat
def k0_dev42 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_193 : BitVec 32 := 10#32
  let v188 : BitVec 32 := Scalar.addi v2 c10_i32_193
  let c32_i32_194 : BitVec 32 := 32#32
  let v189 : BitVec 32 := Scalar.remsi v188 c32_i32_194
  let c1_i32_198 : BitVec 32 := 1#32
  let v191 : BitVec 32 := Scalar.muli v189 c1_i32_198
  let v192 : BitVec 32 := Scalar.addi c0_i32_199 v191
  v192.toNat
def k0_dev43 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_203 : BitVec 32 := 11#32
  let v200 : BitVec 32 := Scalar.addi v2 c11_i32_203
  let c32_i32_204 : BitVec 32 := 32#32
  let v201 : BitVec 32 := Scalar.remsi v200 c32_i32_204
  let c1_i32_208 : BitVec 32 := 1#32
  let v203 : BitVec 32 := Scalar.muli v201 c1_i32_208
  let v204 : BitVec 32 := Scalar.addi c0_i32_209 v203
  v204.toNat
def k0_dev44 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_213 : BitVec 32 := 12#32
  let v212 : BitVec 32 := Scalar.addi v2 c12_i32_213
  let c32_i32_214 : BitVec 32 := 32#32
  let v213 : BitVec 32 := Scalar.remsi v212 c32_i32_214
  let c1_i32_218 : BitVec 32 := 1#32
  let v215 : BitVec 32 := Scalar.muli v213 c1_i32_218
  let v216 : BitVec 32 := Scalar.addi c0_i32_219 v215
  v216.toNat
def k0_dev45 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_223 : BitVec 32 := 13#32
  let v224 : BitVec 32 := Scalar.addi v2 c13_i32_223
  let c32_i32_224 : BitVec 32 := 32#32
  let v225 : BitVec 32 := Scalar.remsi v224 c32_i32_224
  let c1_i32_228 : BitVec 32 := 1#32
  let v227 : BitVec 32 := Scalar.muli v225 c1_i32_228
  let v228 : BitVec 32 := Scalar.addi c0_i32_229 v227
  v228.toNat
def k0_dev46 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_233 : BitVec 32 := 14#32
  let v236 : BitVec 32 := Scalar.addi v2 c14_i32_233
  let c32_i32_234 : BitVec 32 := 32#32
  let v237 : BitVec 32 := Scalar.remsi v236 c32_i32_234
  let c1_i32_238 : BitVec 32 := 1#32
  let v239 : BitVec 32 := Scalar.muli v237 c1_i32_238
  let v240 : BitVec 32 := Scalar.addi c0_i32_239 v239
  v240.toNat
def k0_dev47 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_243 : BitVec 32 := 15#32
  let v248 : BitVec 32 := Scalar.addi v2 c15_i32_243
  let c32_i32_244 : BitVec 32 := 32#32
  let v249 : BitVec 32 := Scalar.remsi v248 c32_i32_244
  let c1_i32_248 : BitVec 32 := 1#32
  let v251 : BitVec 32 := Scalar.muli v249 c1_i32_248
  let v252 : BitVec 32 := Scalar.addi c0_i32_249 v251
  v252.toNat
def k0_dev48 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_253 : BitVec 32 := 16#32
  let v260 : BitVec 32 := Scalar.addi v2 c16_i32_253
  let c32_i32_254 : BitVec 32 := 32#32
  let v261 : BitVec 32 := Scalar.remsi v260 c32_i32_254
  let c1_i32_258 : BitVec 32 := 1#32
  let v263 : BitVec 32 := Scalar.muli v261 c1_i32_258
  let v264 : BitVec 32 := Scalar.addi c0_i32_259 v263
  v264.toNat
def k0_dev49 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_263 : BitVec 32 := 17#32
  let v272 : BitVec 32 := Scalar.addi v2 c17_i32_263
  let c32_i32_264 : BitVec 32 := 32#32
  let v273 : BitVec 32 := Scalar.remsi v272 c32_i32_264
  let c1_i32_268 : BitVec 32 := 1#32
  let v275 : BitVec 32 := Scalar.muli v273 c1_i32_268
  let v276 : BitVec 32 := Scalar.addi c0_i32_269 v275
  v276.toNat
def k0_dev50 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_273 : BitVec 32 := 18#32
  let v284 : BitVec 32 := Scalar.addi v2 c18_i32_273
  let c32_i32_274 : BitVec 32 := 32#32
  let v285 : BitVec 32 := Scalar.remsi v284 c32_i32_274
  let c1_i32_278 : BitVec 32 := 1#32
  let v287 : BitVec 32 := Scalar.muli v285 c1_i32_278
  let v288 : BitVec 32 := Scalar.addi c0_i32_279 v287
  v288.toNat
def k0_dev51 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_283 : BitVec 32 := 19#32
  let v296 : BitVec 32 := Scalar.addi v2 c19_i32_283
  let c32_i32_284 : BitVec 32 := 32#32
  let v297 : BitVec 32 := Scalar.remsi v296 c32_i32_284
  let c1_i32_288 : BitVec 32 := 1#32
  let v299 : BitVec 32 := Scalar.muli v297 c1_i32_288
  let v300 : BitVec 32 := Scalar.addi c0_i32_289 v299
  v300.toNat
def k0_dev52 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_293 : BitVec 32 := 20#32
  let v308 : BitVec 32 := Scalar.addi v2 c20_i32_293
  let c32_i32_294 : BitVec 32 := 32#32
  let v309 : BitVec 32 := Scalar.remsi v308 c32_i32_294
  let c1_i32_298 : BitVec 32 := 1#32
  let v311 : BitVec 32 := Scalar.muli v309 c1_i32_298
  let v312 : BitVec 32 := Scalar.addi c0_i32_299 v311
  v312.toNat
def k0_dev53 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_303 : BitVec 32 := 21#32
  let v320 : BitVec 32 := Scalar.addi v2 c21_i32_303
  let c32_i32_304 : BitVec 32 := 32#32
  let v321 : BitVec 32 := Scalar.remsi v320 c32_i32_304
  let c1_i32_308 : BitVec 32 := 1#32
  let v323 : BitVec 32 := Scalar.muli v321 c1_i32_308
  let v324 : BitVec 32 := Scalar.addi c0_i32_309 v323
  v324.toNat
def k0_dev54 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_313 : BitVec 32 := 22#32
  let v332 : BitVec 32 := Scalar.addi v2 c22_i32_313
  let c32_i32_314 : BitVec 32 := 32#32
  let v333 : BitVec 32 := Scalar.remsi v332 c32_i32_314
  let c1_i32_318 : BitVec 32 := 1#32
  let v335 : BitVec 32 := Scalar.muli v333 c1_i32_318
  let v336 : BitVec 32 := Scalar.addi c0_i32_319 v335
  v336.toNat
def k0_dev55 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_323 : BitVec 32 := 23#32
  let v344 : BitVec 32 := Scalar.addi v2 c23_i32_323
  let c32_i32_324 : BitVec 32 := 32#32
  let v345 : BitVec 32 := Scalar.remsi v344 c32_i32_324
  let c1_i32_328 : BitVec 32 := 1#32
  let v347 : BitVec 32 := Scalar.muli v345 c1_i32_328
  let v348 : BitVec 32 := Scalar.addi c0_i32_329 v347
  v348.toNat
def k0_dev56 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_333 : BitVec 32 := 24#32
  let v356 : BitVec 32 := Scalar.addi v2 c24_i32_333
  let c32_i32_334 : BitVec 32 := 32#32
  let v357 : BitVec 32 := Scalar.remsi v356 c32_i32_334
  let c1_i32_338 : BitVec 32 := 1#32
  let v359 : BitVec 32 := Scalar.muli v357 c1_i32_338
  let v360 : BitVec 32 := Scalar.addi c0_i32_339 v359
  v360.toNat
def k0_dev57 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_343 : BitVec 32 := 25#32
  let v368 : BitVec 32 := Scalar.addi v2 c25_i32_343
  let c32_i32_344 : BitVec 32 := 32#32
  let v369 : BitVec 32 := Scalar.remsi v368 c32_i32_344
  let c1_i32_348 : BitVec 32 := 1#32
  let v371 : BitVec 32 := Scalar.muli v369 c1_i32_348
  let v372 : BitVec 32 := Scalar.addi c0_i32_349 v371
  v372.toNat
def k0_dev58 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_353 : BitVec 32 := 26#32
  let v380 : BitVec 32 := Scalar.addi v2 c26_i32_353
  let c32_i32_354 : BitVec 32 := 32#32
  let v381 : BitVec 32 := Scalar.remsi v380 c32_i32_354
  let c1_i32_358 : BitVec 32 := 1#32
  let v383 : BitVec 32 := Scalar.muli v381 c1_i32_358
  let v384 : BitVec 32 := Scalar.addi c0_i32_359 v383
  v384.toNat
def k0_dev59 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_363 : BitVec 32 := 27#32
  let v392 : BitVec 32 := Scalar.addi v2 c27_i32_363
  let c32_i32_364 : BitVec 32 := 32#32
  let v393 : BitVec 32 := Scalar.remsi v392 c32_i32_364
  let c1_i32_368 : BitVec 32 := 1#32
  let v395 : BitVec 32 := Scalar.muli v393 c1_i32_368
  let v396 : BitVec 32 := Scalar.addi c0_i32_369 v395
  v396.toNat
def k0_dev60 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_373 : BitVec 32 := 28#32
  let v404 : BitVec 32 := Scalar.addi v2 c28_i32_373
  let c32_i32_374 : BitVec 32 := 32#32
  let v405 : BitVec 32 := Scalar.remsi v404 c32_i32_374
  let c1_i32_378 : BitVec 32 := 1#32
  let v407 : BitVec 32 := Scalar.muli v405 c1_i32_378
  let v408 : BitVec 32 := Scalar.addi c0_i32_379 v407
  v408.toNat
def k0_dev61 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_383 : BitVec 32 := 29#32
  let v416 : BitVec 32 := Scalar.addi v2 c29_i32_383
  let c32_i32_384 : BitVec 32 := 32#32
  let v417 : BitVec 32 := Scalar.remsi v416 c32_i32_384
  let c1_i32_388 : BitVec 32 := 1#32
  let v419 : BitVec 32 := Scalar.muli v417 c1_i32_388
  let v420 : BitVec 32 := Scalar.addi c0_i32_389 v419
  v420.toNat
def k0_dev62 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_393 : BitVec 32 := 30#32
  let v428 : BitVec 32 := Scalar.addi v2 c30_i32_393
  let c32_i32_394 : BitVec 32 := 32#32
  let v429 : BitVec 32 := Scalar.remsi v428 c32_i32_394
  let c1_i32_398 : BitVec 32 := 1#32
  let v431 : BitVec 32 := Scalar.muli v429 c1_i32_398
  let v432 : BitVec 32 := Scalar.addi c0_i32_399 v431
  v432.toNat
def k0_dev63 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_403 : BitVec 32 := 31#32
  let v440 : BitVec 32 := Scalar.addi v2 c31_i32_403
  let c32_i32_404 : BitVec 32 := 32#32
  let v441 : BitVec 32 := Scalar.remsi v440 c32_i32_404
  let c1_i32_408 : BitVec 32 := 1#32
  let v443 : BitVec 32 := Scalar.muli v441 c1_i32_408
  let v444 : BitVec 32 := Scalar.addi c0_i32_409 v443
  v444.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v452 : Index := Scalar.indexCast v2
  let c0_413 : Index := 0#32
  let c0_414 : Index := 0#32
  ![v452.toNat, 0, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_415 : BitVec 32 := 64#32
  let v455 : BitVec 32 := Scalar.muli v2 c64_i32_415
  let v456 : Index := Scalar.indexCast v455
  let c0_416 : Index := 0#32
  ![v456.toNat, 0]
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Loops.lean ====
/-
# The kernel's body as loops

The kernel is unrolled: 32 signals on the barrier semaphore, 31 remote copies, and 31 pairs of waits. This module
states the body as the same operations in three loops over lists (`sigLoop`, `sendLoop`, `waitLoop`), and proves that
the printed body IS that program (`body_eq_loops`), so that each kind of step is reasoned about once.
-/
module

public import proofs.«01_k».proof.Proof.Gen.KernelIdeal
public import proofs.«01_k».proof.Proof.Gen.KernelIdeal.Skeleton
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.Sem

variable {F : FTy → Type} [FloatOps F]

/-! ## Devices -/

set_option backward.proofsInPublic true in
/-- The device `k` places after `c` on the ring of 32. -/
def peer (c : Dev nD) (k : Fin 32) : Dev nD := ⟨(c.val + k.val) % 32, Nat.mod_lt _ (by decide)⟩

set_option backward.proofsInPublic true in
/-- The device `k` places before `c`. -/
def back (c : Dev nD) (k : Fin 32) : Dev nD := ⟨(c.val + (32 - k.val)) % 32, Nat.mod_lt _ (by decide)⟩

/-- The device each of the 32 signals names, as the program computes it. -/
def sigDev : Fin 32 → Dev nD := ![⟨k0_dev1, k0_dev1_lt⟩, ⟨k0_dev2, k0_dev2_lt⟩, ⟨k0_dev3, k0_dev3_lt⟩, ⟨k0_dev4, k0_dev4_lt⟩, ⟨k0_dev5, k0_dev5_lt⟩, ⟨k0_dev6, k0_dev6_lt⟩, ⟨k0_dev7, k0_dev7_lt⟩, ⟨k0_dev8, k0_dev8_lt⟩, ⟨k0_dev9, k0_dev9_lt⟩, ⟨k0_dev10, k0_dev10_lt⟩, ⟨k0_dev11, k0_dev11_lt⟩, ⟨k0_dev12, k0_dev12_lt⟩, ⟨k0_dev13, k0_dev13_lt⟩, ⟨k0_dev14, k0_dev14_lt⟩, ⟨k0_dev15, k0_dev15_lt⟩, ⟨k0_dev16, k0_dev16_lt⟩, ⟨k0_dev17, k0_dev17_lt⟩, ⟨k0_dev18, k0_dev18_lt⟩, ⟨k0_dev19, k0_dev19_lt⟩, ⟨k0_dev20, k0_dev20_lt⟩, ⟨k0_dev21, k0_dev21_lt⟩, ⟨k0_dev22, k0_dev22_lt⟩, ⟨k0_dev23, k0_dev23_lt⟩, ⟨k0_dev24, k0_dev24_lt⟩, ⟨k0_dev25, k0_dev25_lt⟩, ⟨k0_dev26, k0_dev26_lt⟩, ⟨k0_dev27, k0_dev27_lt⟩, ⟨k0_dev28, k0_dev28_lt⟩, ⟨k0_dev29, k0_dev29_lt⟩, ⟨k0_dev30, k0_dev30_lt⟩, ⟨k0_dev31, k0_dev31_lt⟩, ⟨k0_dev32, k0_dev32_lt⟩]

/-- The device each of the 31 remote copies names, as device `c`'s program computes it. -/
def sendDev (c : Dev nD) : Fin 31 → Dev nD := ![⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩, ⟨k0_dev63 c, k0_dev63_lt c⟩]

theorem sigDev_eq : ∀ p : Fin 32, sigDev p = p := by decide +kernel
theorem sendDev_eq : ∀ (c : Dev nD) (r : Fin 31), sendDev c r = peer c r.succ := by decide +kernel

/-- The block of `y` that copy `r` of device `c` reads starts at the plane of the device it goes to. -/
theorem off2_eq (c : Dev nD) (r : Fin 31) : k0_off2 c (BitVec.ofNat 32 (1 + r.val)) = ![(peer c r.succ).val, 0, 0] := by
  rw [k0_off2_eq]; rfl

/-! ## Memrefs and semaphores -/

abbrev xM : Memref sig .tc .vmem S64x2048 .f32 := Memref.whole cc0_stg0_0
abbrev wM : Memref sig .tc .vmem S2048x2048 .f32 := Memref.whole cc0_stg1_0
abbrev oM : Memref sig .tc .vmem S2048x64 .f32 := Memref.whole cc0_stg2_0
abbrev yM : Memref sig .tc .vmem S32x64x64 .f32 := Memref.whole cc0_scratch0

/-- Rows of the 64 by 64 block at offset `o` of the result's buffer. -/
abbrev oAt (o : Fin 2 → Nat) (h : ∀ a, o a + S64x64.size a ≤ S2048x64.size a) : Memref sig .tc .vmem S64x64 .f32 :=
  oM.slice (Rect.unit (s := S2048x64) o S64x64.size h) (fun _ => rfl)

/-- The plane at offset `o` of the scratch buffer `y`. -/
abbrev yAt (o : Fin 3 → Nat) (h : ∀ a, o a + S1x64x64.size a ≤ S32x64x64.size a) : Memref sig .tc .vmem S64x64 .f32 :=
  (yM.slice (Rect.unit (s := S32x64x64) o S1x64x64.size h) (fun _ => rfl)).squeeze S64x64 squeezes_S1x64x64_S64x64

theorem inbS (k : Fin 32) : ∀ a, (![k.val] : Fin 1 → Nat) a + S1.size a ≤ S32.size a := by revert k; decide

/-- The barrier semaphore; the send and the receive semaphore at place `k`. -/
abbrev barS : Sem sig := (SemArray.scalar (sig.barrier 0 rfl) : Sems sig S_).sem
abbrev semOf (A : DmaSems sig S32) (k : Fin 32) : DmaSem sig :=
  SemArray.sem ((A.slice (Rect.unit (s := S32) ![k.val] S1.size (inbS k)) : DmaSems sig S1).squeeze S_ squeezes_S1_S_ : DmaSems sig S_)
abbrev sendS (k : Fin 32) : DmaSem sig := semOf cc0_scratch1 k
abbrev recvS (k : Fin 32) : DmaSem sig := semOf cc0_scratch2 k

/-! ## The loops -/

abbrev P0 (F : FTy → Type) [FloatOps F] := Prog (TpuEff nD τ sig (Elt F) Λ₀ .tc) PUnit

/-- Signals to the devices of a list, then `k`. -/
def sigLoop : List (Fin 32) → P0 F → P0 F
  | [], k => k
  | p :: l, k => .op (.semSignal (Dev.tc (sigDev p) : Thread nD τ) barS (1#32 : BitVec 32).toInt) fun _ => sigLoop l k

/-- Device `c`'s remote copies of a list, then `k`. -/
def sendLoop (c : Dev nD) : List (Fin 31) → P0 F → P0 F
  | [], k => k
  | r :: l, k => .op (.enqueueDma (yAt (k0_off2 c (BitVec.ofNat 32 (1 + r.val))) (k0_off2_inb c r))
      (.remote (Dev.tc (sendDev c r)) (oAt (k0_off1 c) (k0_off1_inb c)) (.dma (sendS r.succ))) (.dma (recvS r.succ))
      ((View.wordExact_bits rfl).reshape _ _) (View.wordExact_bits rfl) ⟨⟨rfl, Or.inl rfl⟩, trivial⟩) fun _ => sendLoop c l k

/-- The waits for the copies of a list: for the copy sent, then for the one received. -/
def waitLoop : List (Fin 31) → P0 F → P0 F
  | [], k => k
  | r :: l, k => .op (.waitDma2 (sendS r.succ) (oAt ![0, 0] inb_S2048x64_S64x64_0_0) (yAt ![0, 0, 0] inb_S32x64x64_S1x64x64_0_0_0)
      (View.wordExact_bits rfl) ((View.wordExact_bits rfl).reshape _ _)) fun _ =>
      .op (.waitDma2 (recvS r.succ) (yAt ![0, 0, 0] inb_S32x64x64_S1x64x64_0_0_0) (oAt ![0, 0] inb_S2048x64_S64x64_0_0)
        ((View.wordExact_bits rfl).reshape _ _) (View.wordExact_bits rfl)) fun _ => waitLoop l k

abbrev rX : Rect S64x2048 := Rect.unit (s := S64x2048) ![0, 0] S64x2048.size inb_S64x2048_S64x2048_0_0
abbrev rW : Rect S2048x2048 := Rect.unit (s := S2048x2048) ![0, 0] S2048x2048.size inb_S2048x2048_S2048x2048_0_0
abbrev rY : Rect S32x64x64 := Rect.unit (s := S32x64x64) ![0, 0, 0] S32x64x64.size inb_S32x64x64_S32x64x64_0_0_0
abbrev rYc (c : Dev nD) : Rect S32x64x64 := Rect.unit (s := S32x64x64) (k0_off3 c) S1x64x64.size (k0_off3_inb c)
abbrev rOc (c : Dev nD) : Rect S2048x64 := Rect.unit (s := S2048x64) (k0_off4 c) S64x64.size (k0_off4_inb c)

/-- What the kernel computes from its blocks of `x` and `w` before anything is sent: the activated product, its columns
    cut in 32 planes. -/
def yOf (x : Vec F S64x2048 .f32) (w : Vec F S2048x2048 .f32) : FVec F S32x64x64 .f32 :=
  k0_pay3 (k0_pay1 x) (k0_pay2 w) (constant S64x2048 .f32 0x00000000#32)

/-- The body: signal all, compute `y`, wait for all, send 31 planes, copy the own plane, wait for the 31 copies. -/
def bodyLoops : P0 F :=
  .op .deviceId fun c => sigLoop (List.finRange 32) <|
  .op (.load xM rX.toLoadRect (View.loadsAt_vmem h_S64x2048)) fun x =>
  .op (.load wM rW.toLoadRect (View.loadsAt_vmem h_S2048x2048)) fun w =>
  .op (.load yM rY.toLoadRect (View.loadsAt_vmem h_S32x64x64)) fun _ =>
  .op (.store yM rY (yOf x w) Finset.univ (View.stores_vmem_bits_univ h_S32x64x64 rfl) (.inl rfl)) fun _ =>
  .op (.semWait barS (32#32 : BitVec 32).toInt) fun _ => sendLoop c (List.finRange 31) <|
  .op (.load yM (rYc c).toLoadRect (View.loadsAt_vmem h_S1x64x64)) fun v =>
  .op (.load oM (rOc c).toLoadRect (View.loadsAt_vmem h_S64x64)) fun _ =>
  .op (.store oM (rOc c) (k0_pay4 v) Finset.univ (View.stores_vmem_bits_univ h_S64x64 rfl) (.inl rfl)) fun _ =>
  waitLoop (List.finRange 31) (.ret ⟨⟩)

set_option maxRecDepth 65536 in
set_option maxHeartbeats 4000000 in
/-- The compiled body is the program of loops. -/
theorem body_eq_loops :
    cc0_body (F := F) xM (Memref.isWhole_whole _) wM (Memref.isWhole_whole _) oM (Memref.isWhole_whole _) yM (Memref.isWhole_whole _)
      cc0_scratch1 cc0_scratch2 = bodyLoops := rfl

end Cert.Exchange

end
-- ==== Proof.Blocks.lean ====
/-
# The blocks the devices exchange

Device `c` computes 32 planes of 64 by 64 elements, one for each device; it sends plane `d` to device `d`, into the
rows `64 c … 64 c + 63` of the result there. This module names the contents: `ofPlanes` is the result a device
assembles from one plane of every device. It proves that a plane written in its rows is what `ofPlanes` holds there
(`landed`), and that the planes of `y`, and the row blocks of the result, partition their buffers.
-/
module

public import proofs.«01_k».proof.Proof.Loops
public import Idealize.ShloMosaic.Lib.ValueLayout
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.Sem
open Idealize.ShloMosaic.Ring (lead_disjoint lead_cover)
open Idealize.ShloMosaic.ValueIdx (ix2 ix3 eq_ix2 reshapeEquiv_ix2_1ab)

variable {F : FTy → Type} [FloatOps F]

/-! ## Offsets -/

theorem inbY (d : Dev nD) : ∀ a, (![d.val, 0, 0] : Fin 3 → Nat) a + S1x64x64.size a ≤ S32x64x64.size a := by revert d; decide
theorem inbO (d : Dev nD) : ∀ a, (![64 * d.val, 0] : Fin 2 → Nat) a + S64x64.size a ≤ S2048x64.size a := by revert d; decide

/-- Plane `d` of `y`; rows `64 d … 64 d + 63` of the result. -/
abbrev yB (d : Dev nD) : Memref sig .tc .vmem S64x64 .f32 := yAt ![d.val, 0, 0] (inbY d)
abbrev oB (d : Dev nD) : Memref sig .tc .vmem S64x64 .f32 := oAt ![64 * d.val, 0] (inbO d)

/-- The elements of the two. -/
abbrev ySet (d : Dev nD) : Finset S32x64x64.Idx := (Rect.unit (s := S32x64x64) ![d.val, 0, 0] S1x64x64.size (inbY d)).set
abbrev oSet (d : Dev nD) : Finset S2048x64.Idx := (Rect.unit (s := S2048x64) ![64 * d.val, 0] S64x64.size (inbO d)).set

theorem yB_set (d : Dev nD) : (yB d).view.set = ySet d :=
  (View.set_reshape _ _).trans (View.set_slice_whole _ _)
theorem oB_set (d : Dev nD) : (oB d).view.set = oSet d := View.set_slice_whole _ _

/-! ## Partitions -/

theorem ySet_disjoint (d d' : Dev nD) (h : d ≠ d') : Disjoint (ySet d) (ySet d') :=
  lead_disjoint (s := S32x64x64) (NB := 32) (0 : Fin 3) 1 (fun b => ![b.val, 0, 0]) S1x64x64.size inbY
    (fun b => (Nat.one_mul _).symm) rfl d d' h
theorem ySet_cover : Finset.univ.biUnion ySet = Finset.univ :=
  lead_cover (s := S32x64x64) (NB := 32) (0 : Fin 3) 1 (fun b => ![b.val, 0, 0]) S1x64x64.size inbY
    (fun b => (Nat.one_mul _).symm) (fun b a ha => by fin_cases a <;> first | exact absurd rfl ha | rfl) rfl (by decide) (by decide)
theorem oSet_disjoint (d d' : Dev nD) (h : d ≠ d') : Disjoint (oSet d) (oSet d') :=
  lead_disjoint (s := S2048x64) (NB := 32) (0 : Fin 2) 64 (fun b => ![64 * b.val, 0]) S64x64.size inbO
    (fun b => rfl) rfl d d' h
theorem oSet_cover : Finset.univ.biUnion oSet = Finset.univ :=
  lead_cover (s := S2048x64) (NB := 32) (0 : Fin 2) 64 (fun b => ![64 * b.val, 0]) S64x64.size inbO
    (fun b => rfl) (fun b a ha => by fin_cases a <;> first | exact absurd rfl ha | rfl) rfl (by decide) (by decide)

/-! ## Contents -/

/-- Row `i` of a result of 2048 rows lies in the block of device `i / 64`, at its row `i % 64`. -/
def rowDev (i : Fin 2048) : Dev nD := ⟨i.val / 64, Nat.div_lt_of_lt_mul i.isLt⟩
def rowIn (i : Fin 2048) : Fin 64 := ⟨i.val % 64, Nat.mod_lt _ (by decide)⟩

/-- What device `d` assembles when device `c` computes the planes `y c`: at row `i`, column `j`, the element of plane `d`
    of device `i / 64` at row `i % 64`, column `j`. -/
def ofPlanes (y : Dev nD → S32x64x64.Idx → Elt F .f32) (d : Dev nD) : S2048x64.Idx → Elt F .f32 :=
  fun i => y (rowDev (i 0)) (ix3 d (rowIn (i 0)) (i 1))

/-- Reading plane `d`, at row `r` and column `j`. -/
theorem read_yB (f : S32x64x64.Idx → Elt F .f32) (d : Dev nD) (r j : Fin 64) :
    (yB d).view.read (Elt F) f (ix2 r j) = f (ix3 d r j) := by
  show f ((Rect.unit (s := S32x64x64) ![d.val, 0, 0] S1x64x64.size (inbY d)).emb (Shape.reshapeEquiv _ (ix2 r j))) = _
  rw [reshapeEquiv_ix2_1ab]
  refine congrArg f (funext fun a => Fin.ext ?_)
  fin_cases a
  · show d.val + 1 * 0 = d.val; rfl
  · show 0 + 1 * r.val = r.val; omega
  · show 0 + 1 * j.val = j.val; omega

/-- The element of the result under row `r` and column `j` of block `d`. -/
theorem emb_oB (d : Dev nD) (r j : Fin 64) :
    (oB d).view.emb (ix2 r j) = ix2 (⟨64 * d.val + r.val, by have := d.isLt; have := r.isLt; have : nD = 32 := rfl; omega⟩ : Fin 2048) j := by
  refine funext fun a => Fin.ext ?_
  fin_cases a
  · show 64 * d.val + 1 * r.val = 64 * d.val + r.val; omega
  · show 0 + 1 * j.val = j.val; omega

/-- `ofPlanes` at row `r` and column `j` of device `c`'s block: device `c`'s plane there. -/
theorem ofPlanes_emb (y : Dev nD → S32x64x64.Idx → Elt F .f32) (d c : Dev nD) (r j : Fin 64) :
    ofPlanes y d ((oB c).view.emb (ix2 r j)) = y c (ix3 d r j) := by
  rw [emb_oB]
  unfold ofPlanes
  have h1 : rowDev (⟨64 * c.val + r.val, by have := c.isLt; have := r.isLt; have : nD = 32 := rfl; omega⟩ : Fin 2048) = c :=
    Fin.ext (show (64 * c.val + r.val) / 64 = c.val by have := r.isLt; omega)
  have h2 : rowIn (⟨64 * c.val + r.val, by have := c.isLt; have := r.isLt; have : nD = 32 := rfl; omega⟩ : Fin 2048) = r :=
    Fin.ext (show (64 * c.val + r.val) % 64 = r.val by have := r.isLt; omega)
  show y (rowDev _) (ix3 d (rowIn _) j) = _
  rw [h1, h2]

/-- Device `c`'s plane `d` written in the rows of `c`: what `ofPlanes` holds in these rows, whatever was there before. -/
theorem landed (y : Dev nD → S32x64x64.Idx → Elt F .f32) (d c : Dev nD) (fd : S2048x64.Idx → Elt F .f32) :
    ∀ i ∈ oSet c, (oB c).view.write (Elt F) fd ((yB d).view.read (Elt F) (y c)) Finset.univ i = ofPlanes y d i := by
  intro i hi
  rw [← oB_set] at hi
  obtain ⟨x, -, rfl⟩ := Finset.mem_map.mp hi
  obtain ⟨r, j, rfl⟩ : ∃ (r j : Fin 64), x = (ix2 r j : S64x64.Idx) := ⟨x 0, x 1, eq_ix2 x⟩
  rw [View.write_emb_of_mem _ _ (Finset.mem_univ _)]
  exact (read_yB (y c) d r j).trans (ofPlanes_emb y d c r j).symm

end Cert.Exchange

end
-- ==== Proof.Protocol.lean ====
/-
# The exchange's protocol

Every device has 65 semaphores in the protocol: the runtime's barrier semaphore, and a send and a receive semaphore
at each of 32 places (place 0 is not used). All of them complete in one round:

* the barrier cell of device `d` gets one unit from every device `p` (duty `p`), which hands `d` the rows of `p`'s
  result that `d` writes (`barPay`);
* the send cell of `c` at place `k ≠ 0` gets the credit of one plane when the copy to `peer c k` has read plane
  `peer c k` of `y`, which it hands back (`sendPay`);
* the receive cell of `d` at place `k ≠ 0` gets the credit of one plane when the copy of `back d k` has landed: the
  rows of `back d k` in `d`'s result, holding what `ofPlanes` says (`recvPay`).
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, and the exchange's with devices as duty names -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem back_peer : ∀ (c : Dev nD) (k : Fin 32), back (peer c k) k = c := by decide +kernel
theorem peer_back : ∀ (c : Dev nD) (k : Fin 32), peer (back c k) k = c := by decide +kernel
theorem peer_zero : ∀ c : Dev nD, peer c 0 = c := by decide +kernel
theorem back_zero : ∀ c : Dev nD, back c 0 = c := by decide +kernel
theorem peer_injective : ∀ c : Dev nD, Function.Injective (peer c) := by
  intro c k k' h
  have h' : (c.val + k.val) % 32 = (c.val + k'.val) % 32 := congrArg Fin.val h
  have := k.isLt; have := k'.isLt
  exact Fin.ext (by omega)
theorem back_injective : ∀ c : Dev nD, Function.Injective (back c) := by
  intro c k k' h
  have h' : (c.val + (32 - k.val)) % 32 = (c.val + (32 - k'.val)) % 32 := congrArg Fin.val h
  have := k.isLt; have := k'.isLt
  exact Fin.ext (by omega)

/-- The places of device `c`'s peers, going round: every device once. -/
def peers (c : Dev nD) : Fin 32 ≃ Dev nD :=
  Equiv.ofBijective (peer c) ((Fintype.bijective_iff_injective_and_card _).mpr ⟨peer_injective c, rfl⟩)
def backs (c : Dev nD) : Fin 32 ≃ Dev nD :=
  Equiv.ofBijective (back c) ((Fintype.bijective_iff_injective_and_card _).mpr ⟨back_injective c, rfl⟩)
/-- Every device moved `k` places on. -/
def shift (k : Fin 32) : Dev nD ≃ Dev nD := ⟨fun c => peer c k, fun c => back c k, fun c => back_peer c k, fun c => peer_back c k⟩

/-! ## The cells -/

/-- The semaphores of the protocol by name: `none` the barrier, `some (false, k)` the send and `some (true, k)` the
    receive semaphore at place `k`. -/
def csem : Option (Bool × Fin 32) → SemLoc sig
  | none => .reg barS
  | some (false, k) => .dma (sendS k)
  | some (true, k) => .dma (recvS k)

theorem csem_injective : Function.Injective csem := by decide +kernel

/-- The name of a semaphore of the protocol. -/
def decode : SemLoc sig → Option (Option (Bool × Fin 32)) := Function.partialInv csem
theorem decode_csem (k : Option (Bool × Fin 32)) : decode (csem k) = some k := Function.partialInv_left csem_injective k
theorem decode_of_ne {sm : SemLoc sig} (h : ∀ k, csem k ≠ sm) : decode sm = none := by
  unfold decode Function.partialInv
  rw [dif_neg]
  rintro ⟨k, hk⟩; exact h k hk

abbrev kcell (ck : Dev nD × Option (Bool × Fin 32)) : GSem nD τ sig := ((ck.1 : Thread nD τ), csem ck.2)
abbrev barCell (c : Dev nD) : GSem nD τ sig := ((c : Thread nD τ), .reg barS)
abbrev sendCell (c : Dev nD) (k : Fin 32) : GSem nD τ sig := ((c : Thread nD τ), .dma (sendS k))
abbrev recvCell (c : Dev nD) (k : Fin 32) : GSem nD τ sig := ((c : Thread nD τ), .dma (recvS k))

theorem decode_bar : decode (.reg barS) = some none := decode_csem none
theorem decode_send (k : Fin 32) : decode (.dma (sendS k)) = some (some (false, k)) := decode_csem (some (false, k))
theorem decode_recv (k : Fin 32) : decode (.dma (recvS k)) = some (some (true, k)) := decode_csem (some (true, k))

theorem kcell_injective : Function.Injective (kcell : Dev nD × Option (Bool × Fin 32) → GSem nD τ sig) := by
  rintro ⟨c, k⟩ ⟨c', k'⟩ h
  have h1 : c = c' := by have := congrArg (fun g : GSem nD τ sig => g.1.1) h; exact this
  subst h1
  exact congrArg (Prod.mk c) (csem_injective (congrArg Prod.snd h))

/-- The credit of one plane. -/
abbrev N : ℕ := (oB 0).view.dmaCredit
theorem N_pos : 0 < N := View.dmaCredit_pos _ (by decide)

/-! ## Contents -/

/-- The device's blocks of `x` and `w` as staged; the planes it computes; the result it assembles. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def planes (c : Dev nD) : S32x64x64.Idx → Elt F .f32 := yOf (xstg m ρ c) (wstg m ρ c)
def result (c : Dev nD) : S2048x64.Idx → Elt F .f32 := ofPlanes (planes m ρ) c

/-- Device `c` holds plane `d` of its `y`; it holds the rows of `d` of its result. -/
def yPts (c d : Dev nD) (f : Buf (Elt F) ((c : Thread nD τ).loc cc0_scratch0)) : sProp 𝕄 :=
  ((c : Thread nD τ).loc cc0_scratch0) ↦[ySet d]{fullShare} f
def oPts (c d : Dev nD) (f : Buf (Elt F) ((c : Thread nD τ).loc cc0_stg2_0)) : sProp 𝕄 :=
  ((c : Thread nD τ).loc cc0_stg2_0) ↦[oSet d]{fullShare} f

omit [FloatOps F] in
instance yPts_storable (c d : Dev nD) (f) : BI.Storable (upEmb : UEmb _ 𝕄) (yPts (F := F) c d f) := by unfold yPts; infer_instance
omit [FloatOps F] in
instance oPts_storable (c d : Dev nD) (f) : BI.Storable (upEmb : UEmb _ 𝕄) (oPts (F := F) c d f) := by unfold oPts; infer_instance

/-! ## The schedule -/

/-- What device `p`'s signal hands device `d`: `p`'s rows that `d` writes. -/
def barPay (d p : Dev nD) : sProp 𝕄 := iprop(∃ f, oPts p d f)
/-- What comes back to `c` when its copy at place `k` has been read. -/
def sendPay (c : Dev nD) (k : Fin 32) : sProp 𝕄 := yPts c (peer c k) (planes m ρ c)
/-- What `d` gets when the copy at place `k` has landed. -/
def recvPay (d : Dev nD) (k : Fin 32) : sProp 𝕄 := oPts d (back d k) (result m ρ d)

/-- Which duties the named cell has. -/
def dutiesOf : Option (Option (Bool × Fin 32)) → Finset (Dev nD)
  | some none => Finset.univ
  | some (some (_, k)) => if k = 0 then ∅ else {0}
  | none => ∅
def amountOf : Option (Option (Bool × Fin 32)) → ℕ
  | some none => 1
  | _ => N
def payOf (c p : Dev nD) : Option (Option (Bool × Fin 32)) → sProp 𝕄
  | some none => barPay c p
  | some (some (false, k)) => sendPay m ρ c k
  | some (some (true, k)) => recvPay m ρ c k
  | none => iprop(emp)

def Rd : Rounds.Schedule (GSem nD τ sig) (Dev nD) 𝕄 where
  duties g r := if r = 0 ∧ g.1.2 = .tc then dutiesOf (decode g.2) else ∅
  unitless _ := False
  amount g _ _ := amountOf (decode g.2)
  payload g _ p := payOf m ρ g.1.1 p (decode g.2)
  amount_pos g _ _ _ := by
    generalize decode g.2 = k
    unfold amountOf
    split
    · exact Nat.one_pos
    · exact N_pos

instance Rd_payload_storable (g : GSem nD τ sig) (r : ℕ) (p : Dev nD) :
    BI.Storable (upEmb : UEmb _ 𝕄) ((Rd (F := F) m ρ).payload g r p) := by
  show BI.Storable upEmb (payOf m ρ g.1.1 p (decode g.2))
  generalize decode g.2 = k
  unfold payOf barPay sendPay recvPay
  split <;> infer_instance

section Sched
variable (c : Dev nD) (k : Fin 32)

theorem duties_bar : (Rd (F := F) m ρ).duties (barCell c) 0 = Finset.univ := by
  dsimp only [Rd]; rw [if_pos ⟨rfl, rfl⟩, decode_bar]; rfl
theorem duties_send (hk : k ≠ 0) : (Rd (F := F) m ρ).duties (sendCell c k) 0 = {0} := by
  dsimp only [Rd]; rw [if_pos ⟨rfl, rfl⟩, decode_send]; exact if_neg hk
theorem duties_recv (hk : k ≠ 0) : (Rd (F := F) m ρ).duties (recvCell c k) 0 = {0} := by
  dsimp only [Rd]; rw [if_pos ⟨rfl, rfl⟩, decode_recv]; exact if_neg hk
theorem duties_later (g : GSem nD τ sig) : ∀ r, 1 ≤ r → (Rd (F := F) m ρ).duties g r = ∅ :=
  fun r hr => by dsimp only [Rd]; rw [if_neg fun h => by omega]
/-- The cells at place 0 have no duty at all. -/
theorem duties_zero (b : Bool) : ∀ r, 0 ≤ r → (Rd (F := F) m ρ).duties (kcell (c, some (b, 0))) r = ∅ := fun r _ => by
  dsimp only [Rd, kcell]; rw [decode_csem]; split <;> first | exact if_pos rfl | rfl

theorem amount_bar (p : Dev nD) : (Rd (F := F) m ρ).amount (barCell c) 0 p = 1 := by dsimp only [Rd]; rw [decode_bar]; rfl
theorem amount_send (p : Dev nD) : (Rd (F := F) m ρ).amount (sendCell c k) 0 p = N := by dsimp only [Rd]; rw [decode_send]; rfl
theorem amount_recv (p : Dev nD) : (Rd (F := F) m ρ).amount (recvCell c k) 0 p = N := by dsimp only [Rd]; rw [decode_recv]; rfl

theorem expect_bar : (Rd (F := F) m ρ).expect (barCell c) 0 = 32 := by
  unfold Schedule.expect Schedule.amountOf
  rw [duties_bar, Finset.sum_congr rfl fun p _ => amount_bar m ρ c p]; rfl
theorem expect_send (hk : k ≠ 0) : (Rd (F := F) m ρ).expect (sendCell c k) 0 = N := by
  unfold Schedule.expect Schedule.amountOf; rw [duties_send m ρ c k hk, Finset.sum_singleton, amount_send]
theorem expect_recv (hk : k ≠ 0) : (Rd (F := F) m ρ).expect (recvCell c k) 0 = N := by
  unfold Schedule.expect Schedule.amountOf; rw [duties_recv m ρ c k hk, Finset.sum_singleton, amount_recv]

theorem payload_bar (p : Dev nD) : (Rd (F := F) m ρ).payload (barCell c) 0 p = barPay c p := by dsimp only [Rd]; rw [decode_bar]; rfl
theorem payload_send (p : Dev nD) : (Rd (F := F) m ρ).payload (sendCell c k) 0 p = sendPay m ρ c k := by dsimp only [Rd]; rw [decode_send]; rfl
theorem payload_recv (p : Dev nD) : (Rd (F := F) m ρ).payload (recvCell c k) 0 p = recvPay m ρ c k := by dsimp only [Rd]; rw [decode_recv]; rfl

/-- The whole round of a cell, no duty taken. -/
theorem rest_bar : bigSep ((Rd (F := F) m ρ).duties (barCell c) 0 \ ∅) (fun p => (Rd (F := F) m ρ).payload (barCell c) 0 p)
    = bigSep Finset.univ (fun p => barPay (F := F) c p) := by
  rw [Finset.sdiff_empty, duties_bar]; exact bigSep_congr fun p _ => payload_bar m ρ c p
theorem rest_send (hk : k ≠ 0) : bigSep ((Rd (F := F) m ρ).duties (sendCell c k) 0 \ ∅) (fun p => (Rd (F := F) m ρ).payload (sendCell c k) 0 p)
    = sendPay m ρ c k := by
  rw [Finset.sdiff_empty, duties_send m ρ c k hk, bigSep_singleton, payload_send]
theorem rest_recv (hk : k ≠ 0) : bigSep ((Rd (F := F) m ρ).duties (recvCell c k) 0 \ ∅) (fun p => (Rd (F := F) m ρ).payload (recvCell c k) 0 p)
    = recvPay m ρ c k := by
  rw [Finset.sdiff_empty, duties_recv m ρ c k hk, bigSep_singleton, payload_recv]

end Sched

/-! ## What each device owes at launch; the levels -/

/-- A unit to the barrier cell of every device of a list; a plane's credit to the receive cell of every copy of a list. -/
def oweBar (l : List (Fin 32)) : CellTallies nD τ sig Unit := (l.map fun p => tallyAt (barCell p) () 1).sum
def oweRecv (c : Dev nD) (l : List (Fin 31)) : CellTallies nD τ sig Unit :=
  (l.map fun r => tallyAt (recvCell (peer c r.succ) r.succ) () N).sum
def O₀ (c : Dev nD) : CellTallies nD τ sig Unit := oweRecv c (List.finRange 31) + oweBar (List.finRange 32)

def L (g : GSem nD τ sig) : Finset Unit := if g.1.2 = .tc then {()} else ∅
/-- Barrier cells at 1, receive cells at 2, everything else (staging, send) at 0. -/
def lvOf : Option (Option (Bool × Fin 32)) → ℕ
  | some none => 1
  | some (some (true, _)) => 2
  | _ => 0
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl

/-- A sum of tallies is positive at a cell only if one of the summands is. -/
theorem sum_pos {A : Type} (f : A → CellTallies nD τ sig Unit) (l : List A) {g : GSem nD τ sig} {u : Unit}
    (h : 0 < (l.map f).sum g u) : ∃ a ∈ l, 0 < f a g u := by
  induction l with
  | nil => exact absurd h (Nat.lt_irrefl 0)
  | cons a l ih =>
    rw [List.map_cons, List.sum_cons, Pi.add_apply, Finsupp.add_apply] at h
    by_cases h0 : 0 < f a g u
    · exact ⟨a, List.mem_cons_self, h0⟩
    · obtain ⟨b, hb, hp⟩ := ih (by omega)
      exact ⟨b, List.mem_cons_of_mem _ hb, hp⟩

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem oweBar_pos {l : List (Fin 32)} {g : GSem nD τ sig} {u : Unit} (h : 0 < oweBar l g u) : ∃ p, g = barCell p := by
  obtain ⟨p, -, hp⟩ := sum_pos _ l h; exact ⟨p, tally_pos hp⟩
theorem oweRecv_pos {c : Dev nD} {l : List (Fin 31)} {g : GSem nD τ sig} {u : Unit} (h : 0 < oweRecv c l g u) :
    ∃ d k, g = recvCell d k := by
  obtain ⟨r, -, hp⟩ := sum_pos _ l h; exact ⟨_, _, tally_pos hp⟩
theorem O₀_pos {c : Dev nD} {g : GSem nD τ sig} {u : Unit} (h : 0 < O₀ c g u) :
    (∃ p, g = barCell p) ∨ ∃ d k, g = recvCell d k := by
  unfold O₀ at h
  rw [Pi.add_apply, Finsupp.add_apply] at h
  by_cases h0 : 0 < oweBar (List.finRange 32) g u
  · exact .inl (oweBar_pos h0)
  · exact .inr (oweRecv_pos (c := c) (l := List.finRange 31) (u := u) (by omega))

/-- A semaphore outside the protocol (a staging one) may be waited for, whatever the device owes at launch. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨d, k, rfl⟩ <;> exact Finset.mem_singleton_self _)
      (fun p hp => by rw [Finset.mem_singleton.mp hp]; dsimp only [lv]; rw [decode_of_ne hq]; exact le_rfl)
      (fun g u hg => by
        rcases O₀_pos hg with ⟨p, rfl⟩ | ⟨d, k, rfl⟩
        · dsimp only [lv]; rw [decode_bar]; decide
        · dsimp only [lv]; rw [decode_recv]; exact Nat.zero_lt_two)
  · rw [MayWait_zero]; iintro -; iempintro

/-- At its barrier wait a device owes receive cells only, which lie above its barrier cell. -/
theorem mayWait_bar (c : Dev nD) (l : List (Fin 31)) :
    (levAts L lv : sProp 𝕄) ⊢ MayWait (c : Thread nD τ) (.reg barS) () (oweRecv c l) :=
  MayOwe.of_cut (L := L) (lev := lv) 1 (fun p hp => by rw [Finset.mem_singleton.mp hp, L_tc]; exact Finset.mem_singleton_self _)
    (fun g u hg => by obtain ⟨d, k, rfl⟩ := oweRecv_pos hg; exact Finset.mem_singleton_self _)
    (fun p hp => by rw [Finset.mem_singleton.mp hp]; dsimp only [lv]; rw [decode_bar]; exact le_rfl)
    (fun g u hg => by obtain ⟨d, k, rfl⟩ := oweRecv_pos hg; dsimp only [lv]; rw [decode_recv]; exact Nat.one_lt_two)

/-! ## What every device knows -/

/-- Every cell's invariant, under the names `K` the launch allocated them at, and that every cell has reached round 0. -/
def records (K : Dev nD × Option (Bool × Fin 32) → ℕ) : sProp 𝕄 :=
  iprop((bigSep Finset.univ fun ck : Dev nD × Option (Bool × Fin 32) => cellInv ER (Rd m ρ) (K ck) (kcell ck))
    ∗ bigSep Finset.univ fun ck : Dev nD × Option (Bool × Fin 32) => reached ER (kcell ck) 0)

instance records_persistent (K : Dev nD × Option (Bool × Fin 32) → ℕ) : BI.Persistent (records m ρ K) := by unfold records; infer_instance

variable (K : Dev nD × Option (Bool × Fin 32) → ℕ)

theorem records_inv (ck : Dev nD × Option (Bool × Fin 32)) : records m ρ K ⊢ cellInv ER (Rd m ρ) (K ck) (kcell ck) := by
  have h : (bigSep Finset.univ fun ck : Dev nD × Option (Bool × Fin 32) => (cellInv ER (Rd m ρ) (K ck) (kcell ck) : sProp 𝕄))
      ⊢ cellInv ER (Rd m ρ) (K ck) (kcell ck) := bigSep_elim (Finset.mem_univ ck)
  unfold records
  iintro ⟨H, -⟩
  iapply h; iexact H
theorem records_reached (ck : Dev nD × Option (Bool × Fin 32)) : records m ρ K ⊢ reached ER (kcell ck) 0 := by
  have h : (bigSep Finset.univ fun ck : Dev nD × Option (Bool × Fin 32) => (reached ER (kcell ck) 0 : sProp 𝕄)) ⊢ reached ER (kcell ck) 0 :=
    bigSep_elim (Finset.mem_univ ck)
  unfold records
  iintro ⟨-, H⟩
  iapply h; iexact H

theorem inv_bar (d : Dev nD) : records m ρ K ⊢ cellInv ER (Rd m ρ) (K (d, none)) (barCell d) := records_inv m ρ K (d, none)
theorem inv_send (d : Dev nD) (k : Fin 32) : records m ρ K ⊢ cellInv ER (Rd m ρ) (K (d, some (false, k))) (sendCell d k) :=
  records_inv m ρ K (d, some (false, k))
theorem inv_recv (d : Dev nD) (k : Fin 32) : records m ρ K ⊢ cellInv ER (Rd m ρ) (K (d, some (true, k))) (recvCell d k) :=
  records_inv m ρ K (d, some (true, k))
theorem reached_bar (d : Dev nD) : records m ρ K ⊢ reached ER (barCell d) 0 := records_reached m ρ K (d, none)
theorem reached_send (d : Dev nD) (k : Fin 32) : records m ρ K ⊢ reached ER (sendCell d k) 0 := records_reached m ρ K (d, some (false, k))
theorem reached_recv (d : Dev nD) (k : Fin 32) : records m ρ K ⊢ reached ER (recvCell d k) 0 := records_reached m ρ K (d, some (true, k))

end Cert.Exchange

end
-- ==== Proof.Steps.lean ====
/-
# One triple per loop

Each loop of the body by induction on its list, under the invariants of all cells (`records`):

* `sig_loop`: signalling the devices of a list hands each of them the rows it writes here;
* `send_loop`: sending the planes of a list hands in, per copy, the plane and the rows it writes on the peer, and
  leaves the credit to wait for the copy;
* `wait_loop`: the waits of a list bring back the planes sent and the rows received, and close the cells.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × Fin 32) → ℕ) (c : Dev nD)

/-- The weakest precondition of a program on device `c`. -/
abbrev wpc (p : P0 F) (Q : PUnit → sProp 𝕄) : sProp 𝕄 := wp frame (wpE (defs₀ (F := F)) 𝒱₀ (c : Thread nD τ) none) Set.univ p Q

/-- A separating conjunction over a list, its head split off. -/
theorem sepM_cons {A : Type} (a : A) (l : List A) (Φ : A → sProp 𝕄) :
    bigSepM ((a :: l : List A) : Multiset A) Φ = iprop(Φ a ∗ bigSepM (l : Multiset A) Φ) := bigSepM_cons a (l : Multiset A) Φ

/-- Over all of `Fin n`, as over the list of it. -/
theorem sepM_finRange {n : ℕ} (Φ : Fin n → sProp 𝕄) : bigSep Finset.univ Φ = bigSepM (List.finRange n : Multiset (Fin n)) Φ := rfl

theorem sig_loop (l : List (Fin 32)) (k : P0 F) (Q : PUnit → sProp 𝕄) (R : CellTallies nD τ sig Unit) (W : Waits sig Unit) :
    iprop(records m ρ K ∗ owes (c : Thread nD τ) (R + oweBar l) W
        ∗ bigSepM (l : Multiset (Fin 32)) (fun p => iprop(dutyTok ER (barCell p) 0 c ∗ barPay p c)))
      ⊢ iprop((owes (c : Thread nD τ) R W -∗ wpc c k Q) -∗ wpc c (sigLoop l k) Q) := by
  induction l with
  | nil =>
    iintro ⟨-, HO, -⟩ Hk
    unfold sigLoop
    iapply Hk
    rw [show R + oweBar [] = R from add_zero R]
    iexact HO
  | cons p l ih =>
    rw [sepM_cons]
    unfold sigLoop
    rw [sigDev_eq]
    iintro ⟨#HR, HO, ⟨Ht, Hp⟩, Hl⟩ Hk
    iapply (Rounds.wp_signal 𝒱₀ ER (Rd m ρ) (c : Thread nD τ) none (dst := ((p : Dev nD) : Thread nD τ)) (κ := K (p, none))
      (d := c) (by rw [duties_bar]; exact Finset.mem_univ _) ((amount_bar m ρ p c).trans (by decide)) () (R + oweBar l)
      (show R + oweBar (p :: l) = (R + oweBar l) + tallyAt (barCell p) () 1 by
        rw [add_assoc, add_comm (oweBar l)]; rfl)) $$ [HO Ht Hp]
    · isplitr; · iapply (inv_bar m ρ K p); iexact HR
      isplitl [HO]; · iexact HO
      isplitl [Ht]; · iexact Ht
      isplitl [Hp]; · rw [payload_bar]; iexact Hp
      iapply (reached_bar m ρ K p); iexact HR
    iintro HO
    iapply ih $$ [HO Hl]
    · isplitr; · iexact HR
      isplitl [HO]; · iexact HO
      iexact Hl
    iexact Hk

/-- Holding a plane of `y`, as the copy's source states it; holding rows of the result, as its destination does. -/
theorem yPts_view (d : Dev nD) (f : Buf (Elt F) ((c : Thread nD τ).loc cc0_scratch0)) :
    (((yB d).view.loc (c : Thread nD τ)) ↦[(yB d).view.set]{fullShare} f : sProp 𝕄) = yPts c d f := by
  unfold yPts; rw [yB_set]
theorem oPts_view (d : Dev nD) (f : Buf (Elt F) ((c : Thread nD τ).loc cc0_stg2_0)) :
    (((oB d).view.loc (c : Thread nD τ)) ↦[(oB d).view.set]{fullShare} f : sProp 𝕄) = oPts c d f := by
  unfold oPts; rw [oB_set]

/-- A copy read hands back its plane; a copy landed makes the receive cell's payload. -/
theorem send_pay (k : Fin 32) :
    (((yB (peer c k)).view.loc (c : Thread nD τ)) ↦[(yB (peer c k)).view.set]{fullShare} planes m ρ c : sProp 𝕄)
      ⊢ (Rd m ρ).payload (sendCell c k) 0 0 := by
  rw [payload_send]; unfold sendPay; rw [← yPts_view]
theorem recv_pay (k : Fin 32) (fd : Buf (Elt F) (((peer c k : Dev nD) : Thread nD τ).loc cc0_stg2_0)) :
    (((oB c).view.loc ((peer c k : Dev nD) : Thread nD τ)) ↦[(oB c).view.set]{fullShare}
        ((oB c).view.write (Elt F) fd ((yB (peer c k)).view.read (Elt F) (planes m ρ c)) Finset.univ) : sProp 𝕄)
      ⊢ (Rd m ρ).payload (recvCell (peer c k) k) 0 0 := by
  rw [payload_recv]; unfold recvPay; rw [back_peer]
  refine Entails.of_eq ((oPts_view (F := F) (peer c k) c _).trans ?_)
  unfold oPts
  exact pointsTo_congr (landed (planes m ρ) (peer c k) c fd)

/-- One remote copy as the protocol has it: device `c`'s plane of the device `k` places on, to the rows of `c` there. -/
theorem send_at (k : Fin 32) (hk : k ≠ 0)
    {hsc : (oB c : Memref sig (Dev.tc (peer c k) : Thread nD τ).2.kind .vmem S64x64 .f32).view.ref.isScScratch = false}
    {hsrc : (yB (peer c k)).view.WordExact} {hdst : (oB c).view.WordExact}
    {hsem : DmaTarget.Typed .vmem (.dma (recvS k)) (.remote (Dev.tc (peer c k) : Thread nD τ) (oB c : Memref sig .tc .vmem S64x64 .f32) (.dma (sendS k)) hsc)}
    (Q : PUnit → sProp 𝕄) (q : PUnit → P0 F) (fd : Buf (Elt F) (((peer c k : Dev nD) : Thread nD τ).loc cc0_stg2_0))
    (R O : CellTallies nD τ sig Unit) (hO : O = R + tallyAt (recvCell (peer c k) k) () N) (W : Waits sig Unit) :
    iprop(cellInv ER (Rd m ρ) (K (c, some (false, k))) (sendCell c k) ∗ cellInv ER (Rd m ρ) (K (peer c k, some (true, k))) (recvCell (peer c k) k)
        ∗ (((yB (peer c k)).view.loc (c : Thread nD τ)) ↦[(yB (peer c k)).view.set]{fullShare} planes m ρ c)
        ∗ (((oB c).view.loc ((peer c k : Dev nD) : Thread nD τ)) ↦[(oB c).view.set]{fullShare} fd)
        ∗ owes (c : Thread nD τ) O W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) R W) -∗ wpc c (q ⟨⟩) Q)
          -∗ wpc c (.op (.enqueueDma (yB (peer c k)) (.remote (Dev.tc (peer c k) : Thread nD τ) (oB c) (.dma (sendS k)) hsc) (.dma (recvS k)) hsrc hdst hsem) q) Q) :=
  Rounds.wp_send_pointsTo 𝒱₀ ER (Rd m ρ) (c : Thread nD τ) none (κ₁ := K (c, some (false, k))) (κ₂ := K (peer c k, some (true, k)))
    (src := yB (peer c k)) (dst := oB c) (sS := .dma (sendS k)) (sem := .dma (recvS k)) (c' := ((peer c k : Dev nD) : Thread nD τ))
    (defs := defs₀ (F := F)) (Es := Set.univ) (r₁ := 0) (r₂ := 0) (d₁ := 0) (d₂ := 0) (fs := planes m ρ c) (fd := fd)
    (by rw [duties_send m ρ c k hk]; exact Finset.mem_singleton_self _) (by rw [duties_recv m ρ _ k hk]; exact Finset.mem_singleton_self _)
    () () N rfl (amount_send m ρ c k 0) (amount_recv m ρ (peer c k) k 0) R hO (W := W)
    (send_pay m ρ c k) (recv_pay m ρ c k fd)

/-- One remote copy: device `c`'s plane of `n`, the device `k` places on, to the rows of `c` there. The offsets are
    those of the plane and of the rows, however the program computes them. -/
theorem send_step (k : Fin 32) (hk : k ≠ 0) (n : Dev nD) (hn : n = peer c k)
    (o₁ : Fin 3 → ℕ) (h₁ : ∀ a, o₁ a + S1x64x64.size a ≤ S32x64x64.size a) (e₁ : o₁ = ![(peer c k).val, 0, 0])
    (o₂ : Fin 2 → ℕ) (h₂ : ∀ a, o₂ a + S64x64.size a ≤ S2048x64.size a) (e₂ : o₂ = ![64 * c.val, 0])
    {hsc : (oAt o₂ h₂ : Memref sig (Dev.tc n : Thread nD τ).2.kind .vmem S64x64 .f32).view.ref.isScScratch = false}
    {hsrc : (yAt o₁ h₁).view.WordExact} {hdst : (oAt o₂ h₂).view.WordExact}
    {hsem : DmaTarget.Typed .vmem (.dma (recvS k)) (.remote (Dev.tc n : Thread nD τ) (oAt o₂ h₂ : Memref sig .tc .vmem S64x64 .f32) (.dma (sendS k)) hsc)}
    (Q : PUnit → sProp 𝕄) (q : PUnit → P0 F)
    (R O : CellTallies nD τ sig Unit) (hO : O = R + tallyAt (recvCell (peer c k) k) () N) (W : Waits sig Unit) :
    iprop(records m ρ K ∗ yPts c (peer c k) (planes m ρ c) ∗ barPay c (peer c k) ∗ owes (c : Thread nD τ) O W
        ∗ dutyTok ER (sendCell c k) 0 0 ∗ dutyTok ER (recvCell (peer c k) k) 0 0)
      ⊢ iprop(((cred (tallyAt (sendCell c k) () N) ∗ owes (c : Thread nD τ) R W) -∗ wpc c (q ⟨⟩) Q)
          -∗ wpc c (.op (.enqueueDma (yAt o₁ h₁) (.remote (Dev.tc n : Thread nD τ) (oAt o₂ h₂) (.dma (sendS k)) hsc) (.dma (recvS k)) hsrc hdst hsem) q) Q) := by
  subst hn e₁ e₂
  unfold barPay
  iintro ⟨#HR, Hy, ⟨%fd, Ho⟩, HO, Hs, Hr⟩ Hk
  iapply (send_at m ρ K c k hk Q q fd R O hO W) $$ [Hy Ho HO Hs Hr]
  · isplitr; · iapply (inv_send m ρ K c k); iexact HR
    isplitr; · iapply (inv_recv m ρ K (peer c k) k); iexact HR
    isplitl [Hy]; · iapply (Entails.of_eq (yPts_view (F := F) c (peer c k) _).symm); iexact Hy
    isplitl [Ho]; · iapply (Entails.of_eq (oPts_view (F := F) (peer c k) c _).symm); iexact Ho
    isplitl [HO]; · iexact HO
    isplitl [Hs]; · iexact Hs
    isplitr; · iapply (reached_send m ρ K c k); iexact HR
    isplitl [Hr]; · iexact Hr
    iapply (reached_recv m ρ K (peer c k) k); iexact HR
  iexact Hk

theorem send_loop (l : List (Fin 31)) (k : P0 F) (Q : PUnit → sProp 𝕄) (W : Waits sig Unit) :
    iprop(records m ρ K ∗ owes (c : Thread nD τ) (oweRecv c l) W
        ∗ bigSepM (l : Multiset (Fin 31)) (fun r => iprop(yPts c (peer c r.succ) (planes m ρ c) ∗ barPay c (peer c r.succ)
            ∗ dutyTok ER (sendCell c r.succ) 0 0 ∗ dutyTok ER (recvCell (peer c r.succ) r.succ) 0 0)))
      ⊢ iprop(((owes (c : Thread nD τ) 0 W ∗ bigSepM (l : Multiset (Fin 31)) (fun r => cred (tallyAt (sendCell c r.succ) () N))) -∗ wpc c k Q)
          -∗ wpc c (sendLoop c l k) Q) := by
  induction l generalizing Q with
  | nil =>
    iintro ⟨-, HO, -⟩ Hk
    unfold sendLoop
    iapply Hk
    isplitl [HO]; · iexact HO
    iempintro
  | cons r l ih =>
    rw [sepM_cons, sepM_cons]
    unfold sendLoop
    iintro ⟨#HR, HO, ⟨Hy, Hb, Hs, Hv⟩, Hl⟩ Hk
    iapply (send_step m ρ K c r.succ (Fin.succ_ne_zero r) (sendDev c r) (sendDev_eq c r) _ (k0_off2_inb c r) (off2_eq c r)
      _ (k0_off1_inb c) (k0_off1_eq c) Q _ (oweRecv c l) (oweRecv c (r :: l)) (add_comm _ _) W) $$ [Hy Hb HO Hs Hv]
    · isplitr; · iexact HR
      isplitl [Hy]; · iexact Hy
      isplitl [Hb]; · iexact Hb
      isplitl [HO]; · iexact HO
      isplitl [Hs] <;> iassumption
    iintro ⟨Hc, HO⟩
    iapply ih $$ [HO Hl]
    · isplitr; · iexact HR
      isplitl [HO]; · iexact HO
      iexact Hl
    iintro ⟨HO, Hcs⟩
    iapply Hk
    isplitl [HO]; · iexact HO
    isplitl [Hc] <;> iassumption

/-- What the waits of a list start from, and what they leave: per copy the two credits and positions, and then the
    plane sent, the rows received and both counters at zero. -/
def waitPre (r : Fin 31) : sProp 𝕄 :=
  iprop(cred (tallyAt (sendCell c r.succ) () N) ∗ cred (tallyAt (recvCell c r.succ) () N)
    ∗ atPos ER (sendCell c r.succ) 0 ∅ 0 ∗ atPos ER (recvCell c r.succ) 0 ∅ 0)
def waitPost (r : Fin 31) : sProp 𝕄 :=
  iprop(yPts c (peer c r.succ) (planes m ρ c) ∗ oPts c (back c r.succ) (result m ρ c)
    ∗ semVal (sendCell c r.succ) 0 ∗ semVal (recvCell c r.succ) 0)

theorem wait_loop (l : List (Fin 31)) (k : P0 F) (Q : PUnit → sProp 𝕄) (W : Waits sig Unit) :
    iprop(records m ρ K ∗ owes (c : Thread nD τ) 0 W ∗ bigSepM (l : Multiset (Fin 31)) (fun r => waitPre (F := F) c r))
      ⊢ iprop((((∃ W', owes (c : Thread nD τ) 0 W') ∗ bigSepM (l : Multiset (Fin 31)) (fun r => waitPost m ρ c r)) -∗ wpc c k Q)
          -∗ wpc c (waitLoop l k) Q) := by
  induction l generalizing Q W with
  | nil =>
    iintro ⟨-, HO, -⟩ Hk
    unfold waitLoop
    iapply Hk
    isplitl [HO]; · iexists W; iexact HO
    iempintro
  | cons r l ih =>
    rw [sepM_cons, sepM_cons]
    unfold waitLoop waitPre waitPost
    iintro ⟨#HR, HO, ⟨HcS, HcV, HaS, HaV⟩, Hl⟩ Hk
    iapply (Rounds.wp_wait_rest_token 𝒱₀ ER (Rd m ρ) (c : Thread nD τ) none (κ := K (c, some (false, r.succ)))
      (wpE_waitDma2_eq 𝒱₀ (c : Thread nD τ) none Set.univ) (Set.mem_univ _) () (O := 0) (W := W) (R := 0) (m := 0) (T := ∅)
      (by rw [Nat.zero_add, expect_send m ρ c r.succ (Fin.succ_ne_zero r)])) $$ [HcS HO HaS]
    · isplitr; · iapply (inv_send m ρ K c r.succ); iexact HR
      isplitl [HcS]; · iexact HcS
      isplitl [HO]; · iexact HO
      isplitr; · rw [MayWait_zero]; iempintro
      iexact HaS
    iintro ⟨HO, HaS, -, Hpay⟩
    ihave Hy := (Entails.of_eq (rest_send m ρ c r.succ (Fin.succ_ne_zero r))) $$ Hpay
    iapply (Rounds.wp_wait_rest_token 𝒱₀ ER (Rd m ρ) (c : Thread nD τ) none (κ := K (c, some (true, r.succ)))
      (wpE_waitDma2_eq 𝒱₀ (c : Thread nD τ) none Set.univ) (Set.mem_univ _) () (O := 0) (W := insert (SemLoc.dma (sendS r.succ), ()) W) (R := 0) (m := 0) (T := ∅)
      (by rw [Nat.zero_add, expect_recv m ρ c r.succ (Fin.succ_ne_zero r)])) $$ [HcV HO HaV]
    · isplitr; · iapply (inv_recv m ρ K c r.succ); iexact HR
      isplitl [HcV]; · iexact HcV
      isplitl [HO]; · iexact HO
      isplitr; · rw [MayWait_zero]; iempintro
      iexact HaV
    iintro ⟨HO, HaV, -, Hpay⟩
    ihave Ho := (Entails.of_eq (rest_recv m ρ c r.succ (Fin.succ_ne_zero r))) $$ Hpay
    imod (Rounds.cell_close ER (Rd m ρ) (Set.mem_univ (K (c, some (false, r.succ)))) (fun h => h) (R := 0 + 1) (duties_later m ρ (sendCell c r.succ))) $$ [HaS] with HzS
    · isplitr; · iapply (inv_send m ρ K c r.succ); iexact HR
      iexact HaS
    imod (Rounds.cell_close ER (Rd m ρ) (Set.mem_univ (K (c, some (true, r.succ)))) (fun h => h) (R := 0 + 1) (duties_later m ρ (recvCell c r.succ))) $$ [HaV] with HzV
    · isplitr; · iapply (inv_recv m ρ K c r.succ); iexact HR
      iexact HaV
    iapply ih $$ [HO Hl]
    · isplitr; · iexact HR
      isplitl [HO]; · iexact HO
      iexact Hl
    iintro ⟨HO, Hls⟩
    iapply Hk
    isplitl [HO]; · iexact HO
    isplitr [Hls]
    · isplitl [Hy]; · unfold sendPay; iexact Hy
      isplitl [Ho]; · unfold recvPay; iexact Ho
      isplitl [HzS] <;> iassumption
    iexact Hls

end Cert.Exchange

end
-- ==== Proof.Body.lean ====
/-
# The body's triple

`sound_body`: on device `c`, from the staged blocks of `x` and `w`, any contents of the result's and the scratch
buffer, and the protocol's ghost state, the body runs to the end, leaves `x` and `w` as they were, the result's buffer
at `result c`, and every semaphore of the protocol at zero.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting conjunctions -/

section Cut
omit [FloatOps F]

theorem sep_succ (Φ : Fin 32 → sProp 𝕄) : bigSep Finset.univ Φ = iprop(Φ 0 ∗ bigSep Finset.univ fun r : Fin 31 => Φ r.succ) := by
  rw [Fin.univ_succ, Finset.cons_eq_insert, bigSep_insert (by simp), bigSep_map]; rfl

theorem sep_peers (c : Dev nD) (Φ : Dev nD → sProp 𝕄) :
    bigSep Finset.univ Φ = iprop(Φ c ∗ bigSep Finset.univ fun r : Fin 31 => Φ (peer c r.succ)) := by
  rw [bigSep_univ_equiv (peers c) Φ, sep_succ]
  show iprop(Φ (peer c 0) ∗ _) = _
  rw [peer_zero]; rfl

theorem sep_backs (c : Dev nD) (Φ : Dev nD → sProp 𝕄) :
    bigSep Finset.univ Φ = iprop(Φ c ∗ bigSep Finset.univ fun r : Fin 31 => Φ (back c r.succ)) := by
  rw [bigSep_univ_equiv (backs c) Φ, sep_succ]
  show iprop(Φ (back c 0) ∗ _) = _
  rw [back_zero]; rfl

/-- Over the send and receive semaphores: those at place 0, then the pairs at the places of the copies. -/
theorem sep_places (Φ : Bool × Fin 32 → sProp 𝕄) :
    bigSep Finset.univ Φ = iprop((Φ (false, 0) ∗ Φ (true, 0)) ∗ bigSep Finset.univ fun r : Fin 31 => iprop(Φ (false, r.succ) ∗ Φ (true, r.succ))) := by
  have h : ∀ Ψ : Bool → sProp 𝕄, bigSep Finset.univ Ψ = iprop(Ψ false ∗ Ψ true) :=
    fun Ψ => bigSep_univ_eq_bigSepL [false, true] (by decide) (by decide) Ψ
  rw [bigSep_univ_prod, bigSep_univ_comm, sep_succ, h]
  congr 1
  exact bigSep_congr fun r _ => h _

/-- A buffer of planes held whole is held plane by plane; a result held whole, block of rows by block of rows. -/
theorem y_planes (c : Dev nD) (f : Buf (Elt F) ((c : Thread nD τ).loc cc0_scratch0)) :
    (((c : Thread nD τ).loc cc0_scratch0) ↦{fullShare} f : sProp 𝕄) = bigSep Finset.univ fun d => yPts c d f :=
  pointsTo_blocks (ℓ := (c : Thread nD τ).loc cc0_scratch0) ySet ySet_disjoint ySet_cover f
theorem o_rows (c : Dev nD) (f : Buf (Elt F) ((c : Thread nD τ).loc cc0_stg2_0)) :
    (((c : Thread nD τ).loc cc0_stg2_0) ↦{fullShare} f : sProp 𝕄) = bigSep Finset.univ fun d => oPts c d f :=
  pointsTo_blocks (ℓ := (c : Thread nD τ).loc cc0_stg2_0) oSet oSet_disjoint oSet_cover f

end Cut

/-! ## The local steps -/

theorem hz2 : (![0, 0] : Fin 2 → Nat) = fun _ => 0 := funext fun a => by fin_cases a <;> rfl
theorem hz3 : (![0, 0, 0] : Fin 3 → Nat) = fun _ => 0 := funext fun a => by fin_cases a <;> rfl

/-- The product and its activation: the scratch buffer holds the device's planes, whatever it held. -/
theorem compute_step (c : Dev nD) (g : Buf (Elt F) ((c : Thread nD τ).loc cc0_scratch0)) (k : P0 F) (Q : PUnit → sProp 𝕄) :
    iprop((((c : Thread nD τ).loc cc0_stg0_0) ↦{fullShare} xstg m ρ c) ∗ (((c : Thread nD τ).loc cc0_stg1_0) ↦{fullShare} wstg m ρ c)
        ∗ (((c : Thread nD τ).loc cc0_scratch0) ↦{fullShare} g))
      ⊢ iprop((((((c : Thread nD τ).loc cc0_stg0_0) ↦{fullShare} xstg m ρ c) ∗ (((c : Thread nD τ).loc cc0_stg1_0) ↦{fullShare} wstg m ρ c)
            ∗ (((c : Thread nD τ).loc cc0_scratch0) ↦{fullShare} (planes m ρ c : Buf (Elt F) ((c : Thread nD τ).loc cc0_scratch0)))) -∗ wpc c k Q)
          -∗ wpc c (.op (.load xM rX.toLoadRect (View.loadsAt_vmem h_S64x2048)) fun x =>
              .op (.load wM rW.toLoadRect (View.loadsAt_vmem h_S2048x2048)) fun w =>
              .op (.load yM rY.toLoadRect (View.loadsAt_vmem h_S32x64x64)) fun _ =>
              .op (.store yM rY (yOf x w) Finset.univ (View.stores_vmem_bits_univ h_S32x64x64 rfl) (.inl rfl)) fun _ => k) Q) := by
  have e1 : xM.view.readAt (Elt F) rX.toLoadRect (xstg m ρ c) = xstg m ρ c := Memref.readAt_unit_zero (Elt F) cc0_stg0_0 hz2 _ _
  have e2 : wM.view.readAt (Elt F) rW.toLoadRect (wstg m ρ c) = wstg m ρ c := Memref.readAt_unit_zero (Elt F) cc0_stg1_0 hz2 _ _
  have e3 : (yM.access rY : View sig .tc _ _ _).write (Elt F) g (planes m ρ c) Finset.univ = planes m ρ c :=
    Memref.write_access_unit_zero_univ (Elt F) cc0_scratch0 hz3 _ g (planes m ρ c)
  iintro ⟨Hx, Hw, Hy⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := yM) (Finset.subset_univ _)) $$ Hy; iintro Hy
  rw [e1, e2]
  iapply (wp_store 𝒱₀ (c : Thread nD τ) none Set.univ (m := yM) (r := rY) (Mk := Finset.univ) (Finset.subset_univ _)) $$ Hy; iintro Hy
  rw [show yOf (xstg m ρ c) (wstg m ρ c) = planes m ρ c from rfl, e3]
  iapply Hk
  isplitl [Hx]; · iexact Hx
  isplitl [Hw] <;> iassumption

/-- The device's own plane, copied to its own rows. The offsets are those of the plane and of the rows, however the
    program computes them. -/
theorem own_step (c : Dev nD) (f : Buf (Elt F) ((c : Thread nD τ).loc cc0_stg2_0))
    (o₁ : Fin 3 → ℕ) (h₁ : ∀ a, o₁ a + S1x64x64.size a ≤ S32x64x64.size a) (e₁ : o₁ = ![c.val, 0, 0])
    (o₂ : Fin 2 → ℕ) (h₂ : ∀ a, o₂ a + S64x64.size a ≤ S2048x64.size a) (e₂ : o₂ = ![64 * c.val, 0])
    (k : P0 F) (Q : PUnit → sProp 𝕄) :
    iprop(yPts c c (planes m ρ c) ∗ oPts c c f)
      ⊢ iprop(((yPts c c (planes m ρ c) ∗ oPts c c (result m ρ c)) -∗ wpc c k Q)
          -∗ wpc c (.op (.load yM (Rect.unit (s := S32x64x64) o₁ S1x64x64.size h₁).toLoadRect (View.loadsAt_vmem h_S1x64x64)) fun v =>
              .op (.load oM (Rect.unit (s := S2048x64) o₂ S64x64.size h₂).toLoadRect (View.loadsAt_vmem h_S64x64)) fun _ =>
              .op (.store oM (Rect.unit (s := S2048x64) o₂ S64x64.size h₂) (k0_pay4 v) Finset.univ (View.stores_vmem_bits_univ h_S64x64 rfl) (.inl rfl)) fun _ => k) Q) := by
  subst e₁ e₂
  unfold yPts oPts
  have s1 : yM.view.setOn (Rect.unit (s := S32x64x64) ![c.val, 0, 0] S1x64x64.size h₁).toLoadRect.set ⊆ ySet c := by
    exact Finset.map_refl.subset
  have s2 : oM.view.setOn (Rect.unit (s := S2048x64) ![64 * c.val, 0] S64x64.size h₂).toLoadRect.set ⊆ oSet c := by
    exact Finset.map_refl.subset
  have s3 : (oM.access (Rect.unit (s := S2048x64) ![64 * c.val, 0] S64x64.size h₂) : View sig .tc _ _ _).setOn Finset.univ ⊆ oSet c :=
    (View.set_slice_whole cc0_stg2_0 _).subset
  iintro ⟨Hy, Ho⟩ Hk
  iapply (wp_load 𝒱₀ (c : Thread nD τ) none Set.univ (m := yM) s1) $$ Hy; iintro Hy
  iapply (wp_load 𝒱₀ (c : Thread nD τ) none Set.univ (m := oM) s2) $$ Ho; iintro Ho
  iapply (wp_store 𝒱₀ (c : Thread nD τ) none Set.univ (m := oM) (Mk := Finset.univ) s3) $$ Ho; iintro Ho
  iapply Hk
  isplitl [Hy]; · iexact Hy
  iapply (Entails.of_eq (pointsTo_congr (landed (planes m ρ) c c f)))
  iexact Ho

/-! ## The pipeline's proof data -/

/-- The ghost state device `c` starts from: what every device knows; its positions; the tokens it pays with — duty `c`
    of every barrier cell, its send cells' duties and its peers' receive cells'. -/
def ghost (K : Dev nD × Option (Bool × Fin 32) → ℕ) (c : Dev nD) : sProp 𝕄 :=
  iprop(records m ρ K ∗ atPos ER (barCell c) 0 ∅ 0 ∗ (bigSep Finset.univ fun bk : Bool × Fin 32 => atPos ER (kcell (c, some bk)) 0 ∅ 0)
    ∗ (bigSep Finset.univ fun p : Dev nD => dutyTok ER (barCell p) 0 c)
    ∗ (bigSep Finset.univ fun r : Fin 31 => dutyTok ER (sendCell c r.succ) 0 0)
    ∗ (bigSep Finset.univ fun r : Fin 31 => dutyTok ER (recvCell (peer c r.succ) r.succ) 0 0))

/-- Its credits: its barrier's 32 units, its receive cells' planes; and the levels. -/
def credits (c : Dev nD) : sProp 𝕄 :=
  iprop(cred (tallyAt (barCell c) () 32) ∗ (bigSep Finset.univ fun r : Fin 31 => cred (tallyAt (recvCell c r.succ) () N)) ∗ levAts L lv)

def start (c : Dev nD) : sProp 𝕄 := iprop((∃ K, ghost m ρ K c) ∗ credits c)

def scr (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scr c)
/-- After the body: the scratch buffer, and every semaphore of the protocol at zero. -/
def Φ₁ (c : Dev nD) : sProp 𝕄 :=
  iprop(scr c ∗ semVal (barCell c) 0 ∗ bigSep Finset.univ fun bk : Bool × Fin 32 => semVal (kcell (c, some bk)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

section Body

variable (K : Dev nD × Option (Bool × Fin 32) → ℕ)

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (result m ρ c))

/-- The cells at place 0, which have no duty, close as they are. -/
theorem close_zero (c : Dev nD) (b : Bool) :
    iprop(records m ρ K ∗ atPos ER (kcell (c, some (b, 0))) 0 ∅ 0) ⊢ iprop(|={Set.univ}=> semVal (kcell (c, some (b, 0))) 0) := by
  iintro ⟨#HR, Hat⟩
  iapply (Rounds.cell_close ER (Rd m ρ) (Set.mem_univ (K (c, some (b, 0)))) (fun h => h) (R := 0) (duties_zero m ρ c b))
  isplitr; · iapply (records_inv m ρ K (c, some (b, 0))); iexact HR
  iexact Hat

omit [FloatOps F] in
/-- The rows of a device's result buffer, whatever they hold, are what its signals hand out. -/
theorem hand_out (c : Dev nD) (g : Buf (Elt F) ((c : Thread nD τ).loc cc0_stg2_0)) :
    (bigSep Finset.univ fun p => oPts c p g) ⊢ (bigSep Finset.univ fun p => barPay p c : sProp 𝕄) :=
  bigSep_mono fun p _ => by
    show (oPts c p g : sProp 𝕄) ⊢ iprop(∃ f, oPts c p f)
    iintro H; iexists g; iexact H

/-- What the waits start from: the credits of both semaphores, and the positions. -/
theorem wait_pre (c : Dev nD) :
    iprop((bigSepM (List.finRange 31 : Multiset (Fin 31)) fun r => cred (tallyAt (sendCell c r.succ) () N))
        ∗ (bigSep Finset.univ fun r : Fin 31 => cred (tallyAt (recvCell c r.succ) () N))
        ∗ bigSep Finset.univ fun r : Fin 31 => iprop(atPos ER (sendCell c r.succ) 0 ∅ 0 ∗ atPos ER (recvCell c r.succ) 0 ∅ 0))
      ⊢ (bigSepM (List.finRange 31 : Multiset (Fin 31)) fun r => waitPre (F := F) c r : sProp 𝕄) := by
  unfold waitPre; rw [← sepM_finRange, ← sepM_finRange]; simp only [bigSep_sep']; exact Entails.of_eq rfl

set_option maxHeartbeats 1000000 in
/-- The body, one rule per loop and per local step in program order. -/
theorem sound_body (c : Dev nD) (Kt : PUnit → sProp 𝕄) :
    iprop(bodyPre m ρ c ∗ (bodyPost m ρ c -∗ Kt ⟨⟩)) ⊢ wpc c bodyLoops Kt := by
  unfold bodyLoops
  simp only [wp_deviceId]
  unfold bodyPre Φ₀ start ghost credits scr
  iintro ⟨⟨⟨⟨⟨%K, #HR, HaB, HaP, HtB, HtS, HtV⟩, HcB, HcV, #Hlev⟩, ⟨%gy, Hy⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = oweRecv c (List.finRange 31) + oweBar (List.finRange 32) from rfl]
  -- the signals hand out the rows of the result
  iapply (sig_loop m ρ K c (List.finRange 32) _ Kt (oweRecv c (List.finRange 31)) W) $$ [HO HtB Hout]
  · isplitr; · iexact HR
    isplitl [HO]; · iexact HO
    rw [← sepM_finRange, bigSep_sep']
    isplitl [HtB]; · iexact HtB
    ihave Hrows := (Entails.of_eq (o_rows (F := F) c g2)) $$ Hout
    iapply (hand_out c g2)
    iexact Hrows
  iintro HO
  -- the planes
  iapply (compute_step m ρ c gy _ Kt) $$ [Hx Hw Hy]
  · isplitl [Hx]; · iexact Hx
    isplitl [Hw] <;> iassumption
  iintro ⟨Hx, Hw, Hy⟩
  -- the wait for all 32 devices brings the rows on every device
  iapply (Rounds.wp_wait_rest_token 𝒱₀ ER (Rd m ρ) (c : Thread nD τ) none (κ := K (c, none))
      (wpE_semWait_eq 𝒱₀ (c : Thread nD τ) none Set.univ) (Set.mem_univ _) () (O := oweRecv c (List.finRange 31)) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_bar c (List.finRange 31)); iexact Hlev
    iexact HaB
  iintro ⟨HO, HaB, -, Hpay⟩
  ihave Hp := (Entails.of_eq ((rest_bar m ρ c).trans (sep_peers c _))) $$ Hpay
  icases Hp with ⟨Hown, Hpeers⟩
  ihave Hys := (Entails.of_eq ((y_planes (F := F) c (planes m ρ c)).trans (sep_peers c _))) $$ Hy
  icases Hys with ⟨Hyown, Hys⟩
  -- the 31 copies
  iapply (send_loop m ρ K c (List.finRange 31) _ Kt _) $$ [HO Hys Hpeers HtS HtV]
  · isplitr; · iexact HR
    isplitl [HO]; · iexact HO
    rw [← sepM_finRange, bigSep_sep', bigSep_sep', bigSep_sep']
    isplitl [Hys]; · iexact Hys
    isplitl [Hpeers]; · iexact Hpeers
    isplitl [HtS] <;> iassumption
  iintro ⟨HO, HcS⟩
  -- the own plane
  unfold barPay
  icases Hown with ⟨%fo, Hown⟩
  iapply (own_step m ρ c fo _ (k0_off3_inb c) (k0_off3_eq c) _ (k0_off4_inb c) (k0_off4_eq c) _ Kt) $$ [Hyown Hown]
  · isplitl [Hyown] <;> iassumption
  iintro ⟨Hyown, Hown⟩
  -- the waits
  ihave HaP := (Entails.of_eq (sep_places (F := F) fun bk => atPos ER (kcell (c, some bk)) 0 ∅ 0)) $$ HaP
  icases HaP with ⟨⟨Ha0, Ha1⟩, HaP⟩
  iapply (wait_loop m ρ K c (List.finRange 31) _ Kt _) $$ [HO HcS HcV HaP]
  · isplitr; · iexact HR
    isplitl [HO]; · iexact HO
    iapply (wait_pre (F := F) c)
    isplitl [HcS]; · iexact HcS
    isplitl [HcV]; · iexact HcV
    iexact HaP
  unfold waitPost
  rw [← sepM_finRange, bigSep_sep', bigSep_sep']
  iintro ⟨⟨%W', HO⟩, Hys, Hrows, Hz⟩
  imod (Rounds.cell_close ER (Rd m ρ) (Set.mem_univ (K (c, none))) (fun h => h) (R := 0 + 1) (duties_later m ρ (barCell c))) $$ [HaB] with HzB
  · isplitr; · iapply (inv_bar m ρ K c); iexact HR
    iexact HaB
  imod (close_zero m ρ K c false) $$ [Ha0] with Hz0
  · isplitr; · iexact HR
    iexact Ha0
  imod (close_zero m ρ K c true) $$ [Ha1] with Hz1
  · isplitr; · iexact HR
    iexact Ha1
  ihave Hy := (Entails.of_eq ((y_planes (F := F) c (planes m ρ c)).trans (sep_peers c _)).symm) $$ [Hyown Hys]
  · isplitl [Hyown] <;> iassumption
  ihave Hout := (Entails.of_eq ((o_rows (F := F) c (result m ρ c)).trans (sep_backs c _)).symm) $$ [Hown Hrows]
  · isplitl [Hown] <;> iassumption
  ihave Hzs := (Entails.of_eq (sep_places (F := F) fun bk => semVal (kcell (c, some bk)) 0).symm) $$ [Hz0 Hz1 Hz]
  · isplitl [Hz0 Hz1]
    · isplitl [Hz0] <;> iassumption
    iexact Hz
  rw [wp_ret]; imodintro
  iapply Hk
  unfold bodyPost Φ₁ scr Dat.owesAt Pipeline.owesWithin
  rw [show (dats m ρ 0 c).owed t₀.succ = 0 from rfl]
  isplitl [Hy HzB Hzs]
  · isplitl [Hy]; · iexists _; iexact Hy
    isplitl [HzB] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) yM (Memref.isWhole_whole _)
      cc0_scratch1 cc0_scratch2) (fun _ => bodyPost m ρ c)
  rw [body_eq_loops]
  iintro H
  iapply (sound_body m ρ c fun _ => bodyPost m ρ c)
  isplitl [H]; · iexact H
  iintro H; iexact H

end Body

end Cert.Exchange

end
-- ==== Proof.Launch.lean ====
/-
# The launch and the run

`run_main`: for any float values, from any memory with zero counters, every weakly fair execution of the module on the
32 devices terminates, and every final state has each device's arrays at the contents the pipeline's proof data names
and every semaphore counter at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a semaphore of the protocol is on a device: the barrier, or a side of the exchange and a place. -/
abbrev Cell := Option (Bool × Fin 32)

/-- The kernel's own semaphores: the send and the receive side, at every place. -/
def osem (k : Bool × Fin 32) : SemLoc sig := csem (some k)

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- A token is minted for every duty name at every cell; the names a cell has no duty of stay unused. -/
def tokOf (x : (Dev nD × Cell) × Dev nD) : GSem nD τ sig × ℕ × Dev nD := (kcell x.1, 0, x.2)
theorem tokOf_injective : Function.Injective tokOf := fun x y h =>
  Prod.ext (kcell_injective (congrArg Prod.fst h)) (congrArg (fun t : GSem nD τ sig × ℕ × Dev nD => t.2.2) h)
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

/-- The tokens device `c` deals out: its barrier's, one per device; its send and its receive cells'. -/
def toks (c : Dev nD) : sProp 𝕄 :=
  iprop((bigSep Finset.univ fun p : Dev nD => dutyTok ER (barCell c) 0 p)
    ∗ (bigSep Finset.univ fun r : Fin 31 => dutyTok ER (sendCell c r.succ) 0 0)
    ∗ (bigSep Finset.univ fun r : Fin 31 => dutyTok ER (recvCell c r.succ) 0 0))

/-- The tokens device `c` pays with. -/
def payToks (c : Dev nD) : sProp 𝕄 :=
  iprop((bigSep Finset.univ fun p : Dev nD => dutyTok ER (barCell p) 0 c)
    ∗ (bigSep Finset.univ fun r : Fin 31 => dutyTok ER (sendCell c r.succ) 0 0)
    ∗ (bigSep Finset.univ fun r : Fin 31 => dutyTok ER (recvCell (peer c r.succ) r.succ) 0 0))

/-- What the launch element deals device `c`, and what the global step makes of it. -/
def G (c : Dev nD) : sProp 𝕄 :=
  iprop((bigSep Finset.univ fun k : Cell => roundState ER (Rd m ρ) (kcell (c, k)) 0)
    ∗ (bigSep Finset.univ fun k : Cell => iprop(atPos ER (kcell (c, k)) 0 ∅ 0 ∗ reached ER (kcell (c, k)) 0)) ∗ toks c)
def G' (c : Dev nD) : sProp 𝕄 := iprop(∃ K, ghost m ρ K c)

theorem sep_option {α : Type} [Fintype α] [DecidableEq α] (Φ : Option α → sProp 𝕄) :
    bigSep Finset.univ Φ = iprop(Φ none ∗ bigSep Finset.univ fun k : α => Φ (some k)) := by
  have h : (Finset.univ : Finset (Option α)) = insert none (Finset.univ.map Function.Embedding.some) := by
    ext o; cases o <;> simp
  rw [h, bigSep_insert (by simp), bigSep_map]; rfl

/-- Over all duty names of all cells of a device there are the tokens it deals out. -/
theorem toks_intro (c : Dev nD) :
    (bigSep Finset.univ fun k : Cell => bigSep Finset.univ fun p : Dev nD => dutyTok ER (kcell (c, k)) 0 p) ⊢ (toks c : sProp 𝕄) := by
  have h : ∀ k : Bool × Fin 32, (bigSep Finset.univ fun p : Dev nD => dutyTok ER (kcell (c, some k)) 0 p)
      ⊢ (dutyTok ER (kcell (c, some k)) 0 0 : sProp 𝕄) := fun k => bigSep_elim (Finset.mem_univ (0 : Dev nD))
  rw [sep_option]
  refine (sep_mono_right ((bigSep_mono fun k _ => h k).trans (Entails.of_eq (sep_places _)))).trans ?_
  unfold toks
  rw [bigSep_sep']
  iintro ⟨HB, -, HS, HV⟩
  isplitl [HB]; · iexact HB
  isplitl [HS]; · iexact HS
  iexact HV

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod, bigSep_univ_prod]
    exact bigSep_mono fun c _ => toks_intro c
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun bk : Bool × Fin 32 => semVal (kcell (c, some bk)) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero, with the launch's round state, become cell invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (Rd m ρ) κ (kcell (c, k))))
          ∗ (bigSep Finset.univ fun k : Cell => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  ihave Hv := (Entails.of_eq (sep_option (F := F) fun k => semVal (kcell (c, k)) 0).symm) $$ [Hos Hus]
  · isplitl [Hus]; · iexact Hus
    iexact Hos
  imod (show iprop((bigSep Finset.univ fun k : Cell => semVal (kcell (c, k)) 0) ∗ bigSep Finset.univ fun k : Cell => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt: a barrier's duty `p` to device `p`, a receive cell's at place `k` to the device `k` places back. -/
theorem toks_around : (bigSep Finset.univ fun c : Dev nD => (toks c : sProp 𝕄)) ⊢ bigSep Finset.univ fun c : Dev nD => payToks c := by
  have hr : (bigSep Finset.univ fun c : Dev nD => bigSep Finset.univ fun r : Fin 31 => (dutyTok ER (recvCell c r.succ) 0 0 : sProp 𝕄))
      = bigSep Finset.univ fun c : Dev nD => bigSep Finset.univ fun r : Fin 31 => dutyTok ER (recvCell (peer c r.succ) r.succ) 0 0 := by
    rw [bigSep_univ_comm, bigSep_univ_comm (fun (c : Dev nD) (r : Fin 31) => (dutyTok ER (recvCell (peer c r.succ) r.succ) 0 0 : sProp 𝕄))]
    exact bigSep_congr fun r _ => bigSep_univ_equiv (shift r.succ) (fun c : Dev nD => (dutyTok ER (recvCell c r.succ) 0 0 : sProp 𝕄))
  unfold toks payToks
  simp only [bigSep_sep']
  rw [hr, bigSep_univ_comm (fun (c : Dev nD) (p : Dev nD) => (dutyTok ER (barCell c) 0 p : sProp 𝕄))]

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cell → ℕ) (c : Dev nD) :
    iprop(records m ρ K ∗ (bigSep Finset.univ fun k : Cell => atPos ER (kcell (c, k)) 0 ∅ 0) ∗ payToks c) ⊢ G' m ρ c := by
  unfold payToks G' ghost
  rw [sep_option]
  iintro ⟨#HR, ⟨HaB, HaP⟩, HtB, HtS, HtV⟩
  iexists K
  isplitr; · iexact HR
  isplitl [HaB]; · iexact HaB
  isplitl [HaP]; · iexact HaP
  isplitl [HtB]; · iexact HtB
  isplitl [HtS] <;> iassumption

theorem regroup :
    (bigSep Finset.univ fun c : Dev nD => iprop((bigSep Finset.univ fun k : Cell => iprop(∃ κ : ℕ, cellInv ER (Rd m ρ) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (Rd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Htk := (toks_around (F := F)) $$ Htok
  iapply (with_records (R := records m ρ K) fun c _ => ghost_intro m ρ K c)
  isplitr
  · unfold records; isplitl; · iexact HI
    iexact HR
  · iapply (Entails.of_eq (bigSep_sep' Finset.univ (fun c : Dev nD => bigSep Finset.univ fun k : Cell => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem oweBar_eq : oweBar (List.finRange 32) = ∑ p : Fin 32, (tallyAt (barCell p) () 1 : CellTallies nD τ sig Unit) := (Fin.sum_univ_def _).symm
theorem oweRecv_eq (d : Dev nD) :
    oweRecv d (List.finRange 31) = ∑ r : Fin 31, (tallyAt (recvCell (peer d r.succ) r.succ) () N : CellTallies nD τ sig Unit) := (Fin.sum_univ_def _).symm

theorem bar_eq_iff {a b : Dev nD} : Iff (barCell a = barCell b) (a = b) :=
  ⟨fun h => congrArg Prod.fst (kcell_injective (a₁ := (a, none)) (a₂ := (b, none)) h), fun h => h ▸ rfl⟩
theorem recv_eq_iff {a b : Dev nD} {k l : Fin 32} : Iff (recvCell a k = recvCell b l) (a = b ∧ k = l) :=
  ⟨fun h => by
    have e := kcell_injective (a₁ := (a, some (true, k))) (a₂ := (b, some (true, l))) h
    exact ⟨congrArg Prod.fst e, congrArg Prod.snd (Option.some.inj (congrArg Prod.snd e))⟩, fun h => by rw [h.1, h.2]⟩
theorem recv_ne_bar {a b : Dev nD} {k : Fin 32} : recvCell a k ≠ barCell b := fun h => by
  have e := kcell_injective (a₁ := (a, some (true, k))) (a₂ := (b, none)) h
  exact absurd (congrArg Prod.snd e) (by simp)

/-- Every device owes every barrier one unit; -/
theorem owed_bar (d c : Dev nD) : O₀ d (barCell c) () = 1 := by
  unfold O₀
  rw [Pi.add_apply, Finsupp.add_apply, oweBar_eq, oweRecv_eq, Finset.sum_apply, Finset.sum_apply, Finsupp.finset_sum_apply, Finsupp.finset_sum_apply,
    Finset.sum_eq_zero (fun r _ => by rw [tallyAt_ne_cell recv_ne_bar.symm]; rfl), Nat.zero_add, Finset.sum_eq_single c]
  · exact tallyAt_self _ _ _
  · intro p _ hp; rw [tallyAt_ne_cell fun h => hp (bar_eq_iff.mp h).symm]; rfl
  · intro h; exact absurd (Finset.mem_univ _) h

/-- and a receive cell at place `k` its plane, if the cell's device is `k` places on. -/
theorem owed_recv (d c : Dev nD) (r : Fin 31) : O₀ d (recvCell c r.succ) () = if d = back c r.succ then N else 0 := by
  unfold O₀
  rw [Pi.add_apply, Finsupp.add_apply, oweBar_eq, oweRecv_eq, Finset.sum_apply, Finset.sum_apply, Finsupp.finset_sum_apply, Finsupp.finset_sum_apply,
    Finset.sum_eq_zero (s := (Finset.univ : Finset (Fin 32))) (fun p _ => by rw [tallyAt_ne_cell recv_ne_bar]; rfl), Nat.add_zero, Finset.sum_eq_single r]
  · rw [tallyAt_apply]
    by_cases h : d = back c r.succ
    · subst h; rw [if_pos rfl, peer_back, if_pos ⟨rfl, rfl⟩]
    · rw [if_neg h, if_neg fun h' => h (by rw [(recv_eq_iff.mp h'.1).1, back_peer])]
  · intro p _ hp; rw [tallyAt_ne_cell fun h => hp (Fin.succ_injective _ (recv_eq_iff.mp h).2.symm)]; rfl
  · intro h; exact absurd (Finset.mem_univ _) h

theorem launch_bar (c : Dev nD) :
    tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c]; rfl

theorem launch_recv (c : Dev nD) (r : Fin 31) :
    tallyOn (recvCell c r.succ) (launchCredit (Pipeline.owing O₀) 0 (recvCell c r.succ)) = (tallyAt (recvCell c r.succ) () N : CellTallies nD τ sig Unit) := by
  unfold tallyAt; refine congrArg _ (Finsupp.ext fun u => ?_); cases u
  rw [Pipeline.launchCredit_owing, Finsupp.single_eq_same, Finset.sum_congr rfl fun d _ => owed_recv d c r,
    Finset.sum_ite_eq' Finset.univ (back c r.succ) fun _ => N, if_pos (Finset.mem_univ _)]

/-- The semaphores a device waits for on launch credit, as an injection. -/
def waited : Option (Fin 31) ↪ SemLoc sig :=
  ⟨fun o => csem (o.map fun r => (true, r.succ)), csem_injective.comp (Option.map_injective fun r r' h => Fin.succ_injective _ (congrArg Prod.snd h))⟩

theorem creds (c : Dev nD) :
    (Pipeline.launchCred O₀ c : sProp 𝕄)
      ⊢ iprop(cred (tallyAt (barCell c) () 32) ∗ bigSep Finset.univ fun r : Fin 31 => cred (tallyAt (recvCell c r.succ) () N)) := by
  unfold Pipeline.launchCred
  have h := bigSep_subset (Finset.subset_univ (Finset.univ.map waited))
    (Φ := fun sm : SemLoc sig => (cred (tallyOn ((c : Thread nD τ), sm) (launchCredit (Pipeline.owing O₀) 0 ((c : Thread nD τ), sm))) : sProp 𝕄))
  rw [bigSep_map, sep_option] at h
  refine h.trans ?_
  show iprop(cred (tallyOn (barCell c) (launchCredit (Pipeline.owing O₀) 0 (barCell c)))
    ∗ bigSep Finset.univ fun r : Fin 31 => cred (tallyOn (recvCell c r.succ) (launchCredit (Pipeline.owing O₀) 0 (recvCell c r.succ)))) ⊢ _
  rw [launch_bar, bigSep_congr fun r _ => congrArg cred (launch_recv c r)]

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G' credits
  isplitl
  · isplitl [HG]; · iexact HG
    isplitl [H1]; · iexact H1
    isplitl [HN] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HzB, Hz⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What an array of device `c` holds after the run. -/
def final (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = final m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Frames.lean ====
/-
# The frames

Each program runs to its end from any launch, leaves its arguments as they were and every counter at zero.
-/
module

public import proofs.«01_k».proof.Defs
public import proofs.«01_k».proof.Proof.Gen.Kernel
public import proofs.«01_k».proof.Proof.Launch

@[expose] public section

noncomputable section

namespace Cert.Exchange

open Idealize.ShloMosaic Idealize.ShloMosaic.TcCoe Idealize.SL.Sem

section
open Cert.KernelIdeal Cert.KernelIdeal.Gen
variable {F : FTy → Type} [FloatOps F] [∀ e, Nonempty (Elt F e)]

/-- The two windows on the arguments are never written back. -/
theorem final_x (m : (ℓ : Loc nD τ sig) → Buf (Elt F) ℓ) (ρ : Dev nD → PrngReg) (c : Dev nD) :
    final m ρ c 0 = m ((c : Thread nD τ).loc main_arg0) := (dats (F := F) m ρ 0 c).arrAt_in (0 : Fin 3) rfl _
theorem final_w (m : (ℓ : Loc nD τ sig) → Buf (Elt F) ℓ) (ρ : Dev nD → PrngReg) (c : Dev nD) :
    final m ρ c 1 = m ((c : Thread nD τ).loc main_arg1) := (dats (F := F) m ρ 0 c).arrAt_in (1 : Fin 3) rfl _

/-- The frame, for any floats. -/
theorem run_frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨(h.1 c 0).trans (final_x m ρ c), (h.1 c 1).trans (final_w m ρ c)⟩, h.2⟩) (run_main m ρ)

end

theorem frame_ideal : Cert.quiescent_KernelIdeal := fun m ρ _ => run_frame (F := Ideal) m ρ

set_option smartUnfolding false in
/-- The two programs are printed as one text under two names, so a run of one is a run of the other. -/
theorem of_ideal_text [FloatOps Bits] {s : MemSt Cert.Kernel.nD Cert.Kernel.τ Cert.Kernel.sig (Elt Bits)}
    {Q : PUnit × MemSt Cert.Kernel.nD Cert.Kernel.τ Cert.Kernel.sig (Elt Bits) → Prop}
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := h

theorem frame_kernel : Cert.quiescent_Kernel := fun m ρ _ => of_ideal_text (run_frame (F := Bits) m ρ)

end Cert.Exchange

end
-- ==== Proof.Activation.lean ====
/-
# The activation on the extended reals

The kernel multiplies a value by its logistic; the references divide it by one plus an exponential. On the extended
reals the two are one function. Clipping a value that lies between the clip's bounds changes nothing.
-/
module

public import Idealize.ShloMosaic.Lib.ValueIdx
public import Idealize.ShloMosaic.PureOps.Ideal.Laws

@[expose] public section

noncomputable section

namespace Cert.Exchange

open Idealize.ShloMosaic

/-- `y / (1 + exp (-y))`. -/
def silu (y : EReal) : EReal := Ideal.div y (1 + Ideal.exp (-y))

theorem exp_nonneg (y : EReal) : 0 ≤ Ideal.exp y := by
  induction y with
  | bot => exact le_rfl
  | top => exact le_top
  | coe r => exact EReal.coe_nonneg.mpr (Real.exp_pos r).le

/-- The denominator is never zero. -/
theorem one_add_exp_ne_zero (y : EReal) : 1 + Ideal.exp y ≠ 0 :=
  (lt_of_lt_of_le zero_lt_one (le_add_of_nonneg_right (exp_nonneg y))).ne'

/-- A value times its logistic is the value over one plus the exponential of its negative. -/
theorem mul_logistic (y : EReal) : y * Ideal.logistic y = silu y := by
  unfold silu Ideal.logistic Ideal.div
  rw [if_neg (one_add_exp_ne_zero _), if_neg (one_add_exp_ne_zero _), one_mul]

/-- The pattern of the references' constant one denotes one. -/
theorem one_bits : Ideal.ofBits .f32 0x3F800000#32 = 1 := by
  simp [Ideal.ofBits, Ideal.ieee, -EReal.coe_mul]; norm_num

/-- Clipping to `[a, b]` fixes what lies in `[a, b]`. -/
theorem clip_of_mem {a b y : EReal} (ha : a ≤ y) (hb : y ≤ b) : min b (max a y) = y := by
  rw [max_eq_right ha, min_eq_right hb]

/-- The comparisons' conjunction is set only if both comparisons hold. -/
theorem mem_of_mask {a b y : EReal} (h : Ideal.cmp .oge y a &&& Ideal.cmp .ole y b = 1#1) : a ≤ y ∧ y ≤ b := by
  unfold Ideal.cmp at h
  by_cases ha : a ≤ y <;> by_cases hb : y ≤ b <;> simp_all

end Cert.Exchange

end
-- ==== Proof.Values.lean ====
/-
# The value of the exchange at the ideal instance

`siluDot x w` is the whole result: at row `i` and column `j`, the activation of the sum of the products of row `i` of
`x` and column `j` of `w`. A device's planes are pieces of its rows (`yOf_apply`), so what a device assembles from the
32 devices' planes is its block of columns of the whole result (`ofPlanes_block`).
-/
module

public import proofs.«01_k».proof.Proof.Blocks
public import proofs.«01_k».proof.Proof.Activation
public import Idealize.ShloMosaic.Lib.Layout
public import Idealize.ShloMosaic.Lib.MatmulPlain
public import Idealize.ShloMosaic.Lib.KernelVsHost
public import Idealize.ShloMosaic.Lib.StackMember

@[expose] public section

noncomputable section

namespace Cert.Exchange

open Cert.KernelIdeal Cert.KernelIdeal.Gen

open Idealize.ShloMosaic Idealize.ShloMosaic.StackMember
open Idealize.ShloMosaic.ValueIdx (ix2 ix3 eq_ix2 eq_ix3)

/-- Row `i` of `x` times column `j` of `w`. -/
def dotAt {k n q : ℕ} (x : (⟨2, ![n, k]⟩ : Shape).Idx → EReal) (w : (⟨2, ![k, q]⟩ : Shape).Idx → EReal) (i : Fin n) (j : Fin q) : EReal :=
  ∑ c : Fin k, x (ix2 i c) * w (ix2 c j)

/-- The whole result. -/
def siluDot (x w : S2048x2048.Idx → EReal) : S2048x2048.Idx → EReal := fun i => silu (dotAt x w (i 0) (i 1))

/-- Column `j` of block `d` of the columns. -/
def col (d : Fin 32) (j : Fin 64) : Fin 2048 := ⟨64 * d.val + j.val, by omega⟩

/-- Rows of 2048 cut into 32 pieces of 64: at `(r, d, j)`, the entry in row `r` at column `j` of block `d`. -/
theorem cut_columns {α : Type} (f : S64x2048.Idx → α) (h : S64x2048.ShapeCasts S64x32x64) (r : Fin 64) (d : Fin 32) (j : Fin 64) :
    shapeCast S64x32x64 f h (ix3 r d j) = f (ix2 r (col d j)) :=
  shapeCast_apply f h _ _ (by
    rw [Shape.rowMajor_val_three, Shape.rowMajor_val_two]
    show r.val * 2048 + (64 * d.val + j.val) = (r.val * 32 + d.val) * 64 + j.val
    omega)

/-- The pieces' axis brought to the front. -/
theorem pieces_first {α : Type} (f : S64x32x64.Idx → α) (h : S64x32x64.Transposes [1, 0, 2] S32x64x64) (d : Fin 32) (r j : Fin 64) :
    transpose S32x64x64 [1, 0, 2] f h (ix3 d r j) = f (ix3 r d j) :=
  transpose_apply _ f h _ _ fun c => match c with | ⟨0, _⟩ => rfl | ⟨1, _⟩ => rfl | ⟨2, _⟩ => rfl

/-- Plane `d` of a device's product, at row `r` and column `j`: the activation of the device's row `r` times column `j`
    of block `d` of `w`. -/
theorem yOf_apply (x : FVec Ideal S64x2048 .f32) (w : FVec Ideal S2048x2048 .f32) (d : Fin 32) (r j : Fin 64) :
    yOf (F := Ideal) x w (ix3 d r j) = silu (dotAt x w r (col d j)) := by
  unfold yOf k0_pay1 k0_pay2 k0_pay3
  dsimp only
  rw [shapeCast_self, shapeCast_self, shapeCast_self, pieces_first, cut_columns, matmul_zero_eq_dotGeneral]
  show Host.dotGeneral (F := Ideal) (DotDims.plain 64 2048 2048) none x w (ix2 r (col d j))
    * Ideal.logistic (Host.dotGeneral (F := Ideal) (DotDims.plain 64 2048 2048) none x w (ix2 r (col d j))) = _
  rw [dotGeneral_plain_apply, mul_logistic]
  rfl

/-- Row `r` of device `c`'s block of `x` is row `64 c + r` of `x`. -/
theorem dotAt_block (x w : S2048x2048.Idx → EReal) (i : Fin 2048) (j : Fin 2048) :
    dotAt (Layout.block ⟨2, ![64, 2048]⟩ ⟨2, ![2048, 2048]⟩ 0 32 (rowDev i) x) w (rowIn i) j = dotAt x w i j := by
  unfold dotAt
  refine Finset.sum_congr rfl fun k _ => congrArg (· * w (ix2 k j)) ?_
  rw [Layout.block_apply]
  congr 1
  funext a; apply Fin.ext
  match a with
  | ⟨0, _⟩ => show i.val / 64 * 64 + i.val % 64 = i.val; omega
  | ⟨1, _⟩ => rfl

/-- When every device computes its planes from its block of rows of `x` and the whole of `w`, device `c` assembles its
    block of columns of the whole result. -/
theorem ofPlanes_block (x w : S2048x2048.Idx → EReal) (y : Dev nD → S32x64x64.Idx → Elt Ideal .f32)
    (hy : ∀ d, y d = yOf (F := Ideal) (Layout.block ⟨2, ![64, 2048]⟩ ⟨2, ![2048, 2048]⟩ 0 32 d x) w) (c : Dev nD) :
    ofPlanes (F := Ideal) y c = Layout.block ⟨2, ![2048, 64]⟩ ⟨2, ![2048, 2048]⟩ 1 32 c (siluDot x w) := by
  funext i
  obtain ⟨a, b, rfl⟩ : ∃ (a : Fin 2048) (b : Fin 64), i = (ix2 a b : S2048x64.Idx) := ⟨i 0, i 1, eq_ix2 i⟩
  show y (rowDev a) (ix3 c (rowIn a) b) = silu (dotAt x w _ _)
  rw [hy, yOf_apply, dotAt_block]
  congr 2
  apply Fin.ext
  show 64 * c.val + b.val = c.val * 64 + b.val
  omega

end Cert.Exchange

end
-- ==== Proof.References.lean ====
/-
# The references' values

Each reference's composed term is, entry by entry, the activation of a row times a column: the one without the clip
everywhere (`silu_value`), the one with it wherever the mask is set (`clipped_value`).
-/
module

public import proofs.«01_k».proof.Proof.Values
public import proofs.«01_k».proof.Proof.Gen.ReferenceIdeal.Run
public import proofs.«01_k».proof.Proof.Gen.SiluIdeal.Run
public import proofs.«01_k».proof.Proof.Gen.On_clip_idle

@[expose] public section

noncomputable section

namespace Cert.Exchange

open Idealize.ShloMosaic Idealize.ShloMosaic.StackMember
open Idealize.ShloMosaic.ValueIdx (ix2 eq_ix2)

/-- The matrices of the references. -/
abbrev Mat : Type := FVec Ideal ⟨2, ![2048, 2048]⟩ .f32

/-- The host's product, entry by entry. -/
theorem product_apply (x w : Mat) (i : (⟨2, ![2048, 2048]⟩ : Shape).Idx) :
    Host.dotGeneral (F := Ideal) (DotDims.plain 2048 2048 2048) none x w i = dotAt x w (i 0) (i 1) := by
  obtain ⟨a, b, rfl⟩ : ∃ a b : Fin 2048, i = ix2 a b := ⟨i 0, i 1, eq_ix2 i⟩
  exact dotGeneral_plain_apply none x w a b

section Silu
open Cert.SiluIdeal Cert.SiluIdeal.Gen

/-- What the reference without the clip computes. -/
def siluRef (x w : Mat) : Mat :=
  Host.divf (Host.dotGeneral dot_S2048x2048_S2048x2048_S2048x2048_1_0_0_1_n_n none x w)
    (addf (broadcastInDim S2048x2048 ![] Facts₀.bcast_S_S2048x2048 (constant S_ .f32 0x3F800000#32))
      (Host.exp (Host.negf (Host.dotGeneral dot_S2048x2048_S2048x2048_S2048x2048_1_0_0_1_n_n none x w))))

theorem silu_value (x w : Mat) : siluRef x w = siluDot x w := by
  funext i
  show Ideal.div (Host.dotGeneral (F := Ideal) (DotDims.plain 2048 2048 2048) none x w i)
    (Ideal.ofBits .f32 0x3F800000#32 + Ideal.exp (-(Host.dotGeneral (F := Ideal) (DotDims.plain 2048 2048 2048) none x w i))) = _
  rw [one_bits, product_apply]
  rfl

end Silu

section Clipped
open Cert.ReferenceIdeal Cert.ReferenceIdeal.Gen

/-- What the reference with the clip computes. -/
def clippedRef (x w : Mat) : Mat :=
  Host.divf (Host.dotGeneral dot_S2048x2048_S2048x2048_S2048x2048_1_0_0_1_n_n none x w)
    (addf (broadcastInDim S2048x2048 ![] Facts₀.bcast_S_S2048x2048 (constant S_ .f32 0x3F800000#32))
      (Host.exp (Host.negf (minimumf (broadcastInDim S2048x2048 ![] Facts₀.bcast_S_S2048x2048 (id (constant S_ .f32 0x42700000#32)))
        (maximumf (broadcastInDim S2048x2048 ![] Facts₀.bcast_S_S2048x2048 (id (constant S_ .f32 0xC2700000#32)))
          (Host.dotGeneral dot_S2048x2048_S2048x2048_S2048x2048_1_0_0_1_n_n none x w))))))

/-- Where the mask is set the clip changes nothing. -/
theorem clipped_value (x w : Mat) (i : (⟨2, ![2048, 2048]⟩ : Shape).Idx) (h : Cert.On_clip_idle.fn (F := Ideal) x w i = 1#1) :
    clippedRef x w i = siluDot x w i := by
  have hm := mem_of_mask (y := Host.dotGeneral (F := Ideal) (DotDims.plain 2048 2048 2048) none x w i)
    (a := Ideal.ofBits .f32 0xC2700000#32) (b := Ideal.ofBits .f32 0x42700000#32) h
  show Ideal.div (Host.dotGeneral (F := Ideal) (DotDims.plain 2048 2048 2048) none x w i)
    (Ideal.ofBits .f32 0x3F800000#32 + Ideal.exp (-(min (Ideal.ofBits .f32 0x42700000#32)
      (max (Ideal.ofBits .f32 0xC2700000#32) (Host.dotGeneral (F := Ideal) (DotDims.plain 2048 2048 2048) none x w i))))) = _
  rw [clip_of_mem hm.1 hm.2, one_bits, product_apply]
  rfl

end Clipped

end Cert.Exchange

end
-- ==== Proof.Claims.lean ====
/-
# The value claims

The kernel's run leaves on each device its block of columns of the whole result; the references' runs leave the whole.
-/
module

public import proofs.«01_k».proof.Proof.Frames
public import proofs.«01_k».proof.Proof.References
public import Idealize.ShloMosaic.Lib.Quiescent

@[expose] public section

noncomputable section

namespace Cert.Exchange

open Idealize.ShloMosaic Idealize.ShloMosaic.TcCoe Idealize.SL.Sem

section Kernel
open Cert.KernelIdeal Cert.KernelIdeal.Gen

variable {F : FTy → Type} [FloatOps F]

/-- Each window has one block, the whole of its array. -/
theorem xstg_eq (m : (ℓ : Loc nD τ sig) → Buf (Elt F) ℓ) (ρ : Dev nD → PrngReg) (c : Dev nD) :
    xstg m ρ c = m ((c : Thread nD τ).loc main_arg0) :=
  Memref.read_access_unit_zero (Elt F) _ (funext fun a => match a with | ⟨0, _⟩ => rfl | ⟨1, _⟩ => rfl) _ _
theorem wstg_eq (m : (ℓ : Loc nD τ sig) → Buf (Elt F) ℓ) (ρ : Dev nD → PrngReg) (c : Dev nD) :
    wstg m ρ c = m ((c : Thread nD τ).loc main_arg1) :=
  Memref.read_access_unit_zero (Elt F) _ (funext fun a => match a with | ⟨0, _⟩ => rfl | ⟨1, _⟩ => rfl) _ _

/-- The output array ends at what the device assembled. -/
theorem final_out (m : (ℓ : Loc nD τ sig) → Buf (Elt F) ℓ) (ρ : Dev nD → PrngReg) (c : Dev nD) :
    final m ρ c 2 = result m ρ c := by
  have h : (win0_2.blk t₀).view.read (Elt F) (final m ρ c 2) = result m ρ c := by
    unfold final
    rw [show cfg0.N = t₀.val + 1 from rfl, (dats m ρ 0 c).arrAt_succ (2 : Fin 3) t₀,
      show (cfg0.win 2).flush t₀ = true from by decide, if_pos rfl]
    exact View.read_write_univ _ _
  rw [← h]
  exact (Memref.read_access_unit_zero (Elt F) main_v1 (funext fun a => match a with | ⟨0, _⟩ => rfl | ⟨1, _⟩ => rfl) _ (final m ρ c 2)).symm

/-- The kernel over the extended reals, from `x` cut by rows and `w` whole on each device. -/
theorem run_value (m : (ℓ : Loc nD τ sig) → Buf (Elt Ideal) ℓ) (ρ : Dev nD → PrngReg) (x w : S2048x2048.Idx → EReal)
    (h : ∀ c : Dev nD, m ((c : Thread nD τ).loc main_arg0) = Layout.block ⟨2, ![64, 2048]⟩ ⟨2, ![2048, 2048]⟩ 0 32 c x
      ∧ m ((c : Thread nD τ).loc main_arg1) = w) :
    θ_run (defs (F := Ideal)) (onTc (τ := τ) (main (F := Ideal))) ⟨m, fun _ => 0, ρ⟩ fun r => ∀ c : Dev nD,
      r.2.mem ((c : Thread nD τ).loc main_v1) = Layout.block ⟨2, ![2048, 64]⟩ ⟨2, ![2048, 2048]⟩ 1 32 c (siluDot x w)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r hr c => ⟨((hr.1 c 2).trans (final_out m ρ c)).trans ?_,
    (hr.1 c 0).trans (final_x m ρ c), (hr.1 c 1).trans (final_w m ρ c)⟩) (run_main (F := Ideal) m ρ)
  refine ofPlanes_block x w (planes m ρ) (fun d => ?_) c
  unfold planes
  rw [xstg_eq, wstg_eq, (h d).1, (h d).2]

end Kernel

/-- The kernel computes the SiLU of the product, everywhere. -/
theorem algebraic_silu : Cert.algebraic_KernelIdeal_SiluIdeal := by
  intro m ρ m' ρ' _ h
  refine ⟨siluDot _ _, run_value m ρ _ _ h, (θ_run Cert.SiluIdeal.defs _ _).mono (fun r hr => ?_) (Cert.SiluIdeal.Value.run m' ρ')⟩
  exact ⟨(hr 0).1.trans (silu_value _ _), (hr 0).2⟩

/-- The kernel computes the problem's reference wherever the reference's clip is idle. -/
theorem algebraic_reference : Cert.algebraic_KernelIdeal_ReferenceIdeal_on_clip_idle := by
  intro m ρ m' ρ' _ h
  refine ⟨siluDot _ _, (θ_run Cert.KernelIdeal.defs _ _).mono (fun r hr c => ⟨fun i _ => congrFun (hr c).1 i, (hr c).2⟩) (run_value m ρ _ _ h),
    (θ_run Cert.ReferenceIdeal.defs _ _).mono (fun r hr => ?_) (Cert.ReferenceIdeal.Value.run m' ρ')⟩
  exact ⟨fun i hi => (congrFun (hr 0).1 i).trans (clipped_value _ _ i hi), (hr 0).2⟩

/-- The references run, and declare no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_silu : Cert.quiescent_SiluIdeal := fun m ρ _ =>
  (θ_run Cert.SiluIdeal.defs _ _).mono (fun r h => ⟨fun c => (h c).2, sem_eq_zero_of_no_sems (by decide) r.2⟩)
    (Cert.SiluIdeal.Value.run m ρ)

end Cert.Exchange

end
-- ==== Proof.lean ====
/-
# The certificate

The claims of Defs.lean, from the kernel's run (Proof/Launch.lean), the references' runs and the two values' equality
(Proof/Claims.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.SiluIdeal
public import proofs.«01_k».proof.Proof.Gen.ReferenceIdeal.Run
public import proofs.«01_k».proof.Proof.Gen.SiluIdeal.Run
public import proofs.«01_k».proof.Proof.Gen.On_clip_idle
public import proofs.«01_k».proof.Proof.Claims

@[expose] public section

namespace Cert.Proof

open Cert.Exchange

/-- `Cert.Claim` (Defs.lean). -/
theorem claim : Cert.Claim :=
  ⟨Cert.Kernel.Gen.facts, Cert.KernelIdeal.Gen.facts, Cert.ReferenceIdeal.Gen.facts, Cert.SiluIdeal.Gen.facts,
    Cert.On_clip_idle.Gen.facts, frame_kernel, frame_ideal, frame_reference, frame_silu, trivial, algebraic_silu,
    algebraic_reference⟩

end Cert.Proof

end
